-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S16x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x7168 : Shape := ⟨3, ![2, 512, 7168]⟩
abbrev S7168 : Shape := ⟨1, ![7168]⟩
abbrev S7168x512 : Shape := ⟨2, ![7168, 512]⟩
abbrev S_ : Shape := ⟨0, ![]⟩

class Facts : Prop where
  bcast_S_S2x512x7168 : S_.BroadcastsInDim S2x512x7168 (![] : Fin 0 → Fin S2x512x7168.rank)
  bcast_S_S7168x512 : S_.BroadcastsInDim S7168x512 (![] : Fin 0 → Fin S7168x512.rank)

variable [Facts]

def fn_part1 {F : FTy → Type} [FloatOps F] (main_v4 : IVec S2x512x7168 1) (main_v12 : IVec S2x512x7168 1) (main_v14 : IVec S7168x512 1) (main_v16 : IVec S7168x512 1) : IVec S2x512x7168 1 × IVec S2x512x7168 1 × IVec S7168x512 1 :=
  let main_v17 : IVec S7168x512 1 := andi main_v14 main_v16
  (main_v4, main_v12, main_v17)

def fn {F : FTy → Type} [FloatOps F] (main_arg0 : IVec S2x512x7168 8) (main_arg1 : FVec F S7168 .f32) (main_arg2 : IVec S2x512x7168 8) (main_arg3 : FVec F S7168 .f32) (main_arg4 : IVec S7168x512 8) (main_arg5 : FVec F S7168 .f32) : IVec S2x512x7168 1 × IVec S2x512x7168 1 × IVec S7168x512 1 :=
  let main_c : IVec S_ 8 := constantI S_ 8 127#8
  let main_v0 : IVec S2x512x7168 8 := broadcastInDim S2x512x7168 ![] bcast_S_S2x512x7168 main_c
  let main_v1 : IVec S2x512x7168 1 := cmpi .ne main_arg0 main_v0
  let main_c_0 : IVec S_ 8 := constantI S_ 8 255#8
  let main_v2 : IVec S2x512x7168 8 := broadcastInDim S2x512x7168 ![] bcast_S_S2x512x7168 main_c_0
  let main_v3 : IVec S2x512x7168 1 := cmpi .ne main_arg0 main_v2
  let main_v4 : IVec S2x512x7168 1 := andi main_v1 main_v3
  let main_c_1 : IVec S_ 8 := constantI S_ 8 124#8
  let main_v5 : IVec S2x512x7168 8 := broadcastInDim S2x512x7168 ![] bcast_S_S2x512x7168 main_c_1
  let main_v6 : IVec S2x512x7168 1 := cmpi .slt main_arg2 main_v5
  let main_c_2 : IVec S_ 8 := constantI S_ 8 0#8
  let main_v7 : IVec S2x512x7168 8 := broadcastInDim S2x512x7168 ![] bcast_S_S2x512x7168 main_c_2
  let main_v8 : IVec S2x512x7168 1 := cmpi .sge main_arg2 main_v7
  let main_c_3 : IVec S_ 8 := constantI S_ 8 252#8
  let main_v9 : IVec S2x512x7168 8 := broadcastInDim S2x512x7168 ![] bcast_S_S2x512x7168 main_c_3
  let main_v10 : IVec S2x512x7168 1 := cmpi .slt main_arg2 main_v9
  let main_v11 : IVec S2x512x7168 1 := ori main_v8 main_v10
  let main_v12 : IVec S2x512x7168 1 := andi main_v6 main_v11
  let main_c_4 : IVec S_ 8 := constantI S_ 8 127#8
  let main_v13 : IVec S7168x512 8 := broadcastInDim S7168x512 ![] bcast_S_S7168x512 main_c_4
  let main_v14 : IVec S7168x512 1 := cmpi .ne main_arg4 main_v13
  let main_c_5 : IVec S_ 8 := constantI S_ 8 255#8
  let main_v15 : IVec S7168x512 8 := broadcastInDim S7168x512 ![] bcast_S_S7168x512 main_c_5
  let main_v16 : IVec S7168x512 1 := cmpi .ne main_arg4 main_v15
  fn_part1 (F := F) main_v4 main_v12 main_v14 main_v16
-- ==== Kernel.lean ====
abbrev S2x512x7168 : Shape := ⟨3, ![2, 512, 7168]⟩
abbrev S7168 : Shape := ⟨1, ![7168]⟩
abbrev S7168x512 : Shape := ⟨2, ![7168, 512]⟩
abbrev S64 : Shape := ⟨1, ![64]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S256x256 : Shape := ⟨2, ![256, 256]⟩
abbrev S1x128x256 : Shape := ⟨3, ![1, 128, 256]⟩
abbrev S3x128x256 : Shape := ⟨3, ![3, 128, 256]⟩
abbrev S1x7168 : Shape := ⟨2, ![1, 7168]⟩
abbrev S2x512x256 : Shape := ⟨3, ![2, 512, 256]⟩
abbrev S256x512 : Shape := ⟨2, ![256, 512]⟩
abbrev S1x256 : Shape := ⟨2, ![1, 256]⟩
abbrev S2x4x256x256 : Shape := ⟨4, ![2, 4, 256, 256]⟩
abbrev S4x256x256 : Shape := ⟨3, ![4, 256, 256]⟩
abbrev S12x3x256x256 : Shape := ⟨4, ![12, 3, 256, 256]⟩
abbrev S1x256x256 : Shape := ⟨3, ![1, 256, 256]⟩
abbrev S1x1x256x256 : Shape := ⟨4, ![1, 1, 256, 256]⟩
abbrev S1x16x128 : Shape := ⟨3, ![1, 16, 128]⟩
abbrev S16x128 : Shape := ⟨2, ![16, 128]⟩
abbrev S1x1x16x128 : Shape := ⟨4, ![1, 1, 16, 128]⟩
abbrev S1x32x256 : Shape := ⟨3, ![1, 32, 256]⟩
abbrev S32x256 : Shape := ⟨2, ![32, 256]⟩
abbrev S1x1x256 : Shape := ⟨3, ![1, 1, 256]⟩
abbrev S1 : Shape := ⟨1, ![1]⟩
abbrev S1x1x1 : Shape := ⟨3, ![1, 1, 1]⟩
abbrev S512x256 : Shape := ⟨2, ![512, 256]⟩
abbrev S1x512x256 : Shape := ⟨3, ![1, 512, 256]⟩
abbrev S256 : Shape := ⟨1, ![256]⟩

abbrev nBuf : Space → Nat
  | .hbm => 88
  | .vmem => 23
  | .smem => 0
  | _ => 0

abbrev bufTy : (tb : Table) → Fin (tcTables nBuf tb) → BufTy
  | .hbm, ⟨0, _⟩ => ⟨S2x512x7168, .i8⟩
  | .hbm, ⟨1, _⟩ => ⟨S7168, .f32⟩
  | .hbm, ⟨2, _⟩ => ⟨S2x512x7168, .i8⟩
  | .hbm, ⟨3, _⟩ => ⟨S7168, .f32⟩
  | .hbm, ⟨4, _⟩ => ⟨S7168x512, .i8⟩
  | .hbm, ⟨5, _⟩ => ⟨S7168, .f32⟩
  | .hbm, ⟨6, _⟩ => ⟨S2x512x7168, .fp8e4m3⟩
  | .hbm, ⟨7, _⟩ => ⟨S2x512x7168, .fp8e5m2⟩
  | .hbm, ⟨8, _⟩ => ⟨S7168x512, .fp8e4m3⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128, .i32⟩
  | .hbm, ⟨32, _⟩ => ⟨S1x128, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S_, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S256x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S128x256, .f32⟩
  | .hbm, ⟨57, _⟩ => ⟨S_, .f32⟩
  | .hbm, ⟨58, _⟩ => ⟨S128x256, .f32⟩
  | .hbm, ⟨59, _⟩ => ⟨S128x256, .f32⟩
  | .hbm, ⟨60, _⟩ => ⟨S256x128, .bf16⟩
  | .hbm, ⟨61, _⟩ => ⟨S256x128, .f32⟩
  | .hbm, ⟨62, _⟩ => ⟨S256x128, .f32⟩
  | .hbm, ⟨63, _⟩ => ⟨S256x128, .bf16⟩
  | .hbm, ⟨64, _⟩ => ⟨S256x128, .f32⟩
  | .hbm, ⟨65, _⟩ => ⟨S256x128, .f32⟩
  | .hbm, ⟨66, _⟩ => ⟨S256x128, .bf16⟩
  | .hbm, ⟨67, _⟩ => ⟨S256x128, .f32⟩
  | .hbm, ⟨68, _⟩ => ⟨S256x128, .f32⟩
  | .hbm, ⟨69, _⟩ => ⟨S256x256, .bf16⟩
  | .hbm, ⟨70, _⟩ => ⟨S128x256, .bf16⟩
  | .hbm, ⟨71, _⟩ => ⟨S128x256, .f32⟩
  | .hbm, ⟨72, _⟩ => ⟨S128x256, .f32⟩
  | .hbm, ⟨73, _⟩ => ⟨S128x256, .bf16⟩
  | .hbm, ⟨74, _⟩ => ⟨S128x256, .f32⟩
  | .hbm, ⟨75, _⟩ => ⟨S128x256, .f32⟩
  | .hbm, ⟨76, _⟩ => ⟨S128x256, .bf16⟩
  | .hbm, ⟨77, _⟩ => ⟨S128x256, .f32⟩
  | .hbm, ⟨78, _⟩ => ⟨S128x256, .f32⟩
  | .hbm, ⟨79, _⟩ => ⟨S1x128x256, .bf16⟩
  | .hbm, ⟨80, _⟩ => ⟨S1x128x256, .bf16⟩
  | .hbm, ⟨81, _⟩ => ⟨S1x128x256, .bf16⟩
  | .hbm, ⟨82, _⟩ => ⟨S3x128x256, .bf16⟩
  | .hbm, ⟨83, _⟩ => ⟨S1x7168, .f32⟩
  | .hbm, ⟨84, _⟩ => ⟨S1x7168, .f32⟩
  | .hbm, ⟨85, _⟩ => ⟨S1x7168, .f32⟩
  | .hbm, ⟨86, _⟩ => ⟨S2x512x7168, .bf16⟩
  | .hbm, ⟨87, _⟩ => ⟨S7168x512, .f32⟩
  | .local _ .vmem, ⟨0, _⟩ => ⟨S256x256, .bf16⟩
  | .local _ .vmem, ⟨1, _⟩ => ⟨S256x128, .bf16⟩
  | .local _ .vmem, ⟨2, _⟩ => ⟨S3x128x256, .bf16⟩
  | .local _ .vmem, ⟨3, _⟩ => ⟨S2x512x256, .fp8e4m3⟩
  | .local _ .vmem, ⟨4, _⟩ => ⟨S2x512x256, .fp8e4m3⟩
  | .local _ .vmem, ⟨5, _⟩ => ⟨S2x512x256, .fp8e5m2⟩
  | .local _ .vmem, ⟨6, _⟩ => ⟨S2x512x256, .fp8e5m2⟩
  | .local _ .vmem, ⟨7, _⟩ => ⟨S256x512, .fp8e4m3⟩
  | .local _ .vmem, ⟨8, _⟩ => ⟨S256x512, .fp8e4m3⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2x512x256, .bf16⟩
  | .local _ .vmem, ⟨16, _⟩ => ⟨S2x512x256, .bf16⟩
  | .local _ .vmem, ⟨17, _⟩ => ⟨S256x512, .f32⟩
  | .local _ .vmem, ⟨18, _⟩ => ⟨S256x512, .f32⟩
  | .local _ .vmem, ⟨19, _⟩ => ⟨S2x4x256x256, .f32⟩
  | .local _ .vmem, ⟨20, _⟩ => ⟨S2x4x256x256, .f32⟩
  | .local _ .vmem, ⟨21, _⟩ => ⟨S4x256x256, .f32⟩
  | .local _ .vmem, ⟨22, _⟩ => ⟨S12x3x256x256, .bf16⟩
  | _, _ => ⟨S2x512x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [BitOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F]
-- ==== ReferenceIdeal.lean ====
abbrev S2x512x7168 : Shape := ⟨3, ![2, 512, 7168]⟩
abbrev S7168 : Shape := ⟨1, ![7168]⟩
abbrev S7168x512 : Shape := ⟨2, ![7168, 512]⟩
abbrev S512x512x512 : Shape := ⟨3, ![512, 512, 512]⟩
abbrev S7168x512x512 : Shape := ⟨3, ![7168, 512, 512]⟩
abbrev S2x7168x512x512 : Shape := ⟨4, ![2, 7168, 512, 512]⟩
abbrev S7168x2x512 : Shape := ⟨3, ![7168, 2, 512]⟩
abbrev S1x1x7168 : Shape := ⟨3, ![1, 1, 7168]⟩
abbrev S7168x1 : Shape := ⟨2, ![7168, 1]⟩

abbrev nBuf : Space → Nat
  | .hbm => 34
  | .vmem => 6
  | .smem => 0
  | _ => 0

abbrev bufTy : (tb : Table) → Fin (tcTables nBuf tb) → BufTy
  | .hbm, ⟨0, _⟩ => ⟨S2x512x7168, .i8⟩
  | .hbm, ⟨1, _⟩ => ⟨S7168, .f32⟩
  | .hbm, ⟨2, _⟩ => ⟨S2x512x7168, .i8⟩
  | .hbm, ⟨3, _⟩ => ⟨S7168, .f32⟩
  | .hbm, ⟨4, _⟩ => ⟨S7168x512, .i8⟩
  | .hbm, ⟨5, _⟩ => ⟨S7168, .f32⟩
  | .hbm, ⟨6, _⟩ => ⟨S2x512x7168, .fp8e4m3⟩
  | .hbm, ⟨7, _⟩ => ⟨S2x512x7168, .fp8e5m2⟩
  | .hbm, ⟨8, _⟩ => ⟨S7168x512, .fp8e4m3⟩
  | .hbm, ⟨9, _⟩ => ⟨S2x512x7168, .bf16⟩
  | .hbm, ⟨10, _⟩ => ⟨S2x512x7168, .bf16⟩
  | .hbm, ⟨11, _⟩ => ⟨S7168x512, .bf16⟩
  | .hbm, ⟨12, _⟩ => ⟨S512x512x512, .i32⟩
  | .hbm, ⟨13, _⟩ => ⟨S512x512x512, .i32⟩
  | .hbm, ⟨14, _⟩ => ⟨S512x512x512, .i32⟩
  | .hbm, ⟨15, _⟩ => ⟨S512x512x512, .i32⟩
  | .hbm, ⟨16, _⟩ => ⟨S512x512x512, .i1⟩
  | .hbm, ⟨17, _⟩ => ⟨S512x512x512, .bf16⟩
  | .hbm, ⟨18, _⟩ => ⟨S7168x512x512, .f32⟩
  | .hbm, ⟨19, _⟩ => ⟨S7168x512x512, .bf16⟩
  | .hbm, ⟨20, _⟩ => ⟨S2x7168x512x512, .f32⟩
  | .hbm, ⟨21, _⟩ => ⟨S2x7168x512x512, .bf16⟩
  | .hbm, ⟨22, _⟩ => ⟨S7168x2x512, .f32⟩
  | .hbm, ⟨23, _⟩ => ⟨S7168x512, .f32⟩
  | .hbm, ⟨24, _⟩ => ⟨S2x512x7168, .f32⟩
  | .hbm, ⟨25, _⟩ => ⟨S7168, .f32⟩
  | .hbm, ⟨26, _⟩ => ⟨S1x1x7168, .f32⟩
  | .hbm, ⟨27, _⟩ => ⟨S2x512x7168, .f32⟩
  | .hbm, ⟨28, _⟩ => ⟨S2x512x7168, .f32⟩
  | .hbm, ⟨29, _⟩ => ⟨S2x512x7168, .bf16⟩
  | .hbm, ⟨30, _⟩ => ⟨S7168, .f32⟩
  | .hbm, ⟨31, _⟩ => ⟨S7168x1, .f32⟩
  | .hbm, ⟨32, _⟩ => ⟨S7168x512, .f32⟩
  | .hbm, ⟨33, _⟩ => ⟨S7168x512, .f32⟩
  | .local _ .vmem, ⟨0, _⟩ => ⟨S2x512x7168, .fp8e4m3⟩
  | .local _ .vmem, ⟨1, _⟩ => ⟨S2x512x7168, .fp8e5m2⟩
  | .local _ .vmem, ⟨2, _⟩ => ⟨S7168x512, .fp8e4m3⟩
  | .local _ .vmem, ⟨3, _⟩ => ⟨S2x512x7168, .bf16⟩
  | .local _ .vmem, ⟨4, _⟩ => ⟨S2x512x7168, .bf16⟩
  | .local _ .vmem, ⟨5, _⟩ => ⟨S7168x512, .bf16⟩
  | _, _ => ⟨S2x512x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x512x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x7168 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Shape.lean ====
module

public import Idealize.ShloMosaic.Lib.Pipeline
public import Idealize.ShloMosaic.Lib.Scf
public import Idealize.ShloMosaic.Lib.Sig
public import Idealize.ShloMosaic.PureOps

@[expose] public section

/-! The kernel's body, written once as a program with loops in place of the printed straight-line
text: the blocks' spectra, one tile of the spectral products, the inverse transform, and the pass
that clears rows beyond the last nonzero gradient. It is generic in the arithmetic and in how the
leading limb of a vector is taken, so that both printed programs are instances of it. -/

noncomputable section

namespace Conv

open Idealize.ShloMosaic Idealize.SL.Sem

abbrev S256x256 : Shape := ⟨2, ![256, 256]⟩
abbrev S256x128 : Shape := ⟨2, ![256, 128]⟩
abbrev S128x256 : Shape := ⟨2, ![128, 256]⟩
abbrev S3x128x256 : Shape := ⟨3, ![3, 128, 256]⟩
abbrev S2x512x256 : Shape := ⟨3, ![2, 512, 256]⟩
abbrev S256x512 : Shape := ⟨2, ![256, 512]⟩
abbrev S512x256 : Shape := ⟨2, ![512, 256]⟩
abbrev S1x512x256 : Shape := ⟨3, ![1, 512, 256]⟩
abbrev S1x256 : Shape := ⟨2, ![1, 256]⟩
abbrev S32x256 : Shape := ⟨2, ![32, 256]⟩
abbrev S1x32x256 : Shape := ⟨3, ![1, 32, 256]⟩
abbrev S1x1x256 : Shape := ⟨3, ![1, 1, 256]⟩
abbrev S1x1x1 : Shape := ⟨3, ![1, 1, 1]⟩
abbrev S1 : Shape := ⟨1, ![1]⟩
abbrev S256 : Shape := ⟨1, ![256]⟩
abbrev S2x4x256x256 : Shape := ⟨4, ![2, 4, 256, 256]⟩
abbrev S4x256x256 : Shape := ⟨3, ![4, 256, 256]⟩
abbrev S1x256x256 : Shape := ⟨3, ![1, 256, 256]⟩
abbrev S1x1x256x256 : Shape := ⟨4, ![1, 1, 256, 256]⟩
abbrev S12x3x256x256 : Shape := ⟨4, ![12, 3, 256, 256]⟩
abbrev S16x128 : Shape := ⟨2, ![16, 128]⟩
abbrev S1x16x128 : Shape := ⟨3, ![1, 16, 128]⟩
abbrev S1x1x16x128 : Shape := ⟨4, ![1, 1, 16, 128]⟩
abbrev S1x128x256 : Shape := ⟨3, ![1, 128, 256]⟩

theorem sc_256_256 : S256x256.ShapeCasts S256x256 := by decide
theorem sc_256_128 : S256x128.ShapeCasts S256x128 := by decide
theorem sc_1_256 : S1x256.ShapeCasts S1x256 := by decide
theorem sc_t3 : S1x16x128.ShapeCasts S16x128 := by decide
theorem sc_t4 : S1x1x16x128.ShapeCasts S16x128 := by decide
theorem sc_t4' : S16x128.ShapeCasts S1x1x16x128 := by decide
theorem sc_b3 : S1x256x256.ShapeCasts S256x256 := by decide
theorem sc_b3' : S256x256.ShapeCasts S1x256x256 := by decide
theorem sc_b4 : S1x1x256x256.ShapeCasts S256x256 := by decide
theorem sc_b4' : S256x256.ShapeCasts S1x1x256x256 := by decide
theorem sc_a : S1x128x256.ShapeCasts S128x256 := by decide
theorem sc_a' : S128x256.ShapeCasts S1x128x256 := by decide
theorem sc_w : S1x512x256.ShapeCasts S512x256 := by decide
theorem sc_w' : S512x256.ShapeCasts S1x512x256 := by decide
theorem sc_l : S1x32x256.ShapeCasts S32x256 := by decide
theorem sc_m : S1x256.ShapeCasts S1x1x256 := by decide
theorem sc_s : S1.ShapeCasts S1x1x1 := by decide
theorem sc_e : S256.ShapeCasts S1x256 := by decide
theorem sl_l : S32x256.Slices ![31, 0] S1x256 := by decide
theorem red_m : S1x1x256.Reduces [1, 2] S1 := by decide
theorem red_e : S512x256.Reduces [0] S256 := by decide
theorem pos_s : ∀ a, (![0, 0, 0] : Fin 3 → Nat) a < S1x1x1.size a := by decide
theorem iota_w : S512x256.Iotas .tc 32 [0] := by decide
theorem bc_w : S1x256.Broadcasts S512x256 := by decide
theorem bc_a : S1x256.Broadcasts S128x256 := by decide
theorem tr_a : S128x256.Transposes [1, 0] S256x128 := by decide
theorem cat0 : Shape.Concatenates [S128x256, S128x256] S256x256 0 := by decide
theorem cat1 : Shape.Concatenates [S256x128, S256x128] S256x256 1 := by decide
theorem lt16 : FTy.bf16.bits < FTy.f32.bits := by decide
theorem lt8 : FTy.fp8e5m2.bits < FTy.f32.bits := by decide

/-- Rows of the first operand against columns of the second, with 256 terms. -/
def dotA : DotDims S256x256 S256x256 S256x256 where
  lhsContracting := [1]
  rhsContracting := [0]
  lhsNonContracting := [0]
  rhsNonContracting := [1]
  lhsBatch := []
  rhsBatch := []
  wf := by decide

/-- Rows against columns, with 128 terms. -/
def dotB : DotDims S256x128 S128x256 S256x256 where
  lhsContracting := [1]
  rhsContracting := [0]
  lhsNonContracting := [0]
  rhsNonContracting := [1]
  lhsBatch := []
  rhsBatch := []
  wf := by decide

/-- Rows against rows, with 256 terms. -/
def dotAt : DotDims S256x256 S256x256 S256x256 where
  lhsContracting := [1]
  rhsContracting := [1]
  lhsNonContracting := [0]
  rhsNonContracting := [0]
  lhsBatch := []
  rhsBatch := []
  wf := by decide

/-- Rows against rows, with 128 terms. -/
def dotBt : DotDims S256x128 S256x128 S256x256 where
  lhsContracting := [1]
  rhsContracting := [1]
  lhsNonContracting := [0]
  rhsNonContracting := [0]
  lhsBatch := []
  rhsBatch := []
  wf := by decide

/-- The inverse transform's product: rows against columns, with 256 terms. -/
def dotG : DotDims S128x256 S256x256 S128x256 where
  lhsContracting := [1]
  rhsContracting := [0]
  lhsNonContracting := [0]
  rhsNonContracting := [1]
  lhsBatch := []
  rhsBatch := []
  wf := by decide

/-! ### The rectangles the program reads and writes -/

/-- A tile of a block of one of the two batched spectra. -/
def rY (b j row lane : ℕ) (h : b < 2 ∧ j < 4 ∧ row + 16 ≤ 256 ∧ lane + 128 ≤ 256) : Rect S2x4x256x256 :=
  Rect.unit (s := S2x4x256x256) ![b, j, row, lane] S1x1x16x128.size (by
    intro a; fin_cases a <;> simp [S1x1x16x128] <;> omega)

/-- A tile of a block of the filter's spectrum. -/
def rH (d row lane : ℕ) (h : d < 4 ∧ row + 16 ≤ 256 ∧ lane + 128 ≤ 256) : Rect S4x256x256 :=
  Rect.unit (s := S4x256x256) ![d, row, lane] S1x16x128.size (by
    intro a; fin_cases a <;> simp [S1x16x128] <;> omega)

/-- A tile of one limb of a result block's spectrum. -/
def rZ (k n row lane : ℕ) (h : k < 12 ∧ n < 3 ∧ row + 16 ≤ 256 ∧ lane + 128 ≤ 256) : Rect S12x3x256x256 :=
  Rect.unit (s := S12x3x256x256) ![k, n, row, lane] S1x1x16x128.size (by
    intro a; fin_cases a <;> simp [S1x1x16x128] <;> omega)

/-- A whole block of one of the two batched spectra. -/
def rYw (b j : ℕ) (h : b < 2 ∧ j < 4) : Rect S2x4x256x256 :=
  Rect.unit (s := S2x4x256x256) ![b, j, 0, 0] S1x1x256x256.size (by
    intro a; fin_cases a <;> simp [S1x1x256x256] <;> omega)

/-- A whole block of the filter's spectrum. -/
def rHw (d : ℕ) (h : d < 4) : Rect S4x256x256 :=
  Rect.unit (s := S4x256x256) ![d, 0, 0] S1x256x256.size (by
    intro a; fin_cases a <;> simp [S1x256x256] <;> omega)

/-- One limb of a result block's spectrum. -/
def rZw (k n : ℕ) (h : k < 12 ∧ n < 3) : Rect S12x3x256x256 :=
  Rect.unit (s := S12x3x256x256) ![k, n, 0, 0] S1x1x256x256.size (by
    intro a; fin_cases a <;> simp [S1x1x256x256] <;> omega)

/-- Rows `o … o + 127` of one sequence. -/
def rX (b o : ℕ) (h : b < 2 ∧ o + 128 ≤ 512) : Rect S2x512x256 :=
  Rect.unit (s := S2x512x256) ![b, o, 0] S1x128x256.size (by
    intro a; fin_cases a <;> simp [S1x128x256] <;> omega)

/-- One sequence. -/
def rXw (b : ℕ) (h : b < 2) : Rect S2x512x256 :=
  Rect.unit (s := S2x512x256) ![b, 0, 0] S1x512x256.size (by
    intro a; fin_cases a <;> simp [S1x512x256] <;> omega)

/-- The last 32 rows of one sequence. -/
def rXl (b : ℕ) (h : b < 2) : Rect S2x512x256 :=
  Rect.unit (s := S2x512x256) ![b, 480, 0] S1x32x256.size (by
    intro a; fin_cases a <;> simp [S1x32x256] <;> omega)

/-- Columns `o … o + 127` of the filter. -/
def rC (o : ℕ) (h : o + 128 ≤ 512) : Rect S256x512 :=
  Rect.unit (s := S256x512) ![0, o] S256x128.size (by
    intro a; fin_cases a <;> simp [S256x128] <;> omega)

/-- One limb of the inverse table. -/
def rG (n : ℕ) (h : n < 3) : Rect S3x128x256 :=
  Rect.unit (s := S3x128x256) ![n, 0, 0] S1x128x256.size (by
    intro a; fin_cases a <;> simp [S1x128x256] <;> omega)

/-- The whole of the two-limb forward table. -/
def rF2 : Rect S256x256 := Rect.unit (s := S256x256) ![0, 0] S256x256.size (by decide)

/-- The whole of the last limb of the forward table. -/
def rF1 : Rect S256x128 := Rect.unit (s := S256x128) ![0, 0] S256x128.size (by decide)

/-- The whole of a row of scales. -/
def rS : Rect S1x256 := Rect.unit (s := S1x256) ![0, 0] S1x256.size (by decide)

/-! ### Values -/

/-- The entry of four at an index. -/
def sel4 {α : Type} (a b c d : α) : ℕ → α
  | 0 => a
  | 1 => b
  | 2 => c
  | _ => d

section Values

variable {F : FTy → Type} [FloatOps F]

/-- A complex tile: its real and imaginary part. -/
abbrev CV (F : FTy → Type) : Type := FVec F S16x128 .f32 × FVec F S16x128 .f32

/-- The product of a conjugate and a complex tile. -/
def cm (a v : CV F) : CV F :=
  (addf (mulf a.1 v.1) (mulf a.2 v.2), subf (mulf a.1 v.2) (mulf a.2 v.1))

def addP (p q : CV F) : CV F := (addf p.1 q.1, addf p.2 q.2)

/-- The sum of `f 0 … f n`, from the left. -/
def zsum (f : ℕ → CV F) : ℕ → CV F
  | 0 => f 0
  | n + 1 => addP (zsum f n) (f (n + 1))

/-- A sum continued by `f 0 … f n`. -/
def zfrom (z : CV F) (f : ℕ → CV F) : ℕ → CV F
  | 0 => addP z (f 0)
  | n + 1 => addP (zfrom z f n) (f (n + 1))

/-- Two neighbouring blocks' spectra joined to the spectrum of their window. -/
def win1 (pos : Bool) (a b : CV F) : CV F :=
  match pos with
  | true => (addf a.1 b.2, subf a.2 b.1)
  | false => (subf a.1 b.2, addf a.2 b.1)

def win (pos : Bool) (y0 y1 y2 y3 : CV F) : ℕ → CV F :=
  sel4 (win1 pos y0 y1) (win1 pos y1 y2) (win1 pos y2 y3) y3

/-- The spectrum of a block held with its positions down the rows. -/
def fwdV {φ : FTy} (f2 : Vec F S256x256 .bf16) (f1 : Vec F S256x128 .bf16) (v : FVec F S128x256 φ) : FVec F S256x256 .f32 :=
  addf
    (matmul dotA none (shapeCast S256x256 f2 sc_256_256 : FVec F S256x256 .bf16)
      (concatenate S256x256 0 [⟨S128x256, v⟩, ⟨S128x256, v⟩] cat0 : FVec F S256x256 φ)
      (constant S256x256 .f32 0x00000000#32))
    (matmul dotB none (shapeCast S256x128 f1 sc_256_128 : FVec F S256x128 .bf16) v (constant S256x256 .f32 0x00000000#32))

/-- The spectrum of a block held with its positions along the lanes. -/
def fwdH {φ : FTy} (f2 : Vec F S256x256 .bf16) (f1 : Vec F S256x128 .bf16) (v : FVec F S256x128 φ) : FVec F S256x256 .f32 :=
  addf
    (matmul dotAt none (shapeCast S256x256 f2 sc_256_256 : FVec F S256x256 .bf16)
      (concatenate S256x256 1 [⟨S256x128, v⟩, ⟨S256x128, v⟩] cat1 : FVec F S256x256 φ)
      (constant S256x256 .f32 0x00000000#32))
    (matmul dotBt none (shapeCast S256x128 f1 sc_256_128 : FVec F S256x128 .bf16) v (constant S256x256 .f32 0x00000000#32))

/-- One product of the inverse transform. -/
def invT (g : Vec F S1x128x256 .bf16) (z : Vec F S1x1x256x256 .bf16) : FVec F S128x256 .f32 :=
  matmul dotG none (shapeCast S128x256 g sc_a : FVec F S128x256 .bf16) (shapeCast S256x256 z sc_b4 : FVec F S256x256 .bf16)
    (constant S128x256 .f32 0x00000000#32)

/-- The last rows, widened. -/
def lastW (v : Vec F S1x32x256 .fp8e5m2) : FVec F S32x256 .f32 :=
  extf .f32 (shapeCast S32x256 v sc_l : FVec F S32x256 .fp8e5m2) lt8

/-- The magnitudes of the last of some rows. -/
def absL (v : FVec F S32x256 .f32) : FVec F S1x1x256 .f32 :=
  shapeCast S1x1x256 (absf (extractStridedSlice S1x256 ![31, 0] v sl_l : FVec F S1x256 .f32)) sc_m

/-- The magnitudes of the last row. -/
def lastAbs (v : Vec F S1x32x256 .fp8e5m2) : FVec F S1x1x256 .f32 := absL (lastW v)

/-- Whether the smallest of a row of magnitudes is zero. -/
def minZero (v : FVec F S1x1x256 .f32) : BitVec 1 :=
  Scalar.cmpi .ne (Scalar.extui (Scalar.cmpf .oeq
    (extractAt ![0, 0, 0] (shapeCast S1x1x1 (multiReduction .minimumf [1, 2] S1 v
      0x7F800000#32 red_m (.inl rfl) rfl : FVec F S1 .f32) sc_s : FVec F S1x1x1 .f32) pos_s)
    (Scalar.ofBits .f32 0x00000000#32))) 0#32

/-- The rows of `cur` up to the last nonzero row of `v`, and zero beyond. -/
def clearV (v : Vec F S1x512x256 .fp8e5m2) (cur : Vec F S1x512x256 .bf16) : FVec F S1x512x256 .bf16 :=
  shapeCast S1x512x256 (truncf .bf16 (select
    (cmpi .sle (iota .tc S512x256 32 [0] iota_w)
      (broadcastTo S512x256 (shapeCast S1x256 (multiReductionI .maxsi [0] S256
        (select (cmpf .one (extf .f32 (shapeCast S512x256 v sc_w : FVec F S512x256 .fp8e5m2) lt8 : FVec F S512x256 .f32)
            (broadcast S512x256 (Scalar.ofBits .f32 0x00000000#32 : F .f32)))
          (iota .tc S512x256 32 [0] iota_w) (broadcast S512x256 4294967295#32))
        2147483648#32 red_e rfl) sc_e : IVec S1x256 32) bc_w))
    (extf .f32 (shapeCast S512x256 cur sc_w : FVec F S512x256 .bf16) lt16 : FVec F S512x256 .f32)
    (broadcast S512x256 (Scalar.ofBits .f32 0x00000000#32 : F .f32))) lt16 : FVec F S512x256 .bf16) sc_w'

end Values

/-! ### The program -/

section Program

variable {nD : Nat} {τ : Topo} {sig : RefSig} {F : FTy → Type} [FloatOps F] {Λ : Labels}

/-- The arrays the body works on: inputs, results and scratch. -/
structure Args (sig : RefSig) where
  f2 : Memref sig .tc .vmem S256x256 .bf16
  hf2 : f2.IsWhole
  f1 : Memref sig .tc .vmem S256x128 .bf16
  hf1 : f1.IsWhole
  g : Memref sig .tc .vmem S3x128x256 .bf16
  hg : g.IsWhole
  x : Memref sig .tc .vmem S2x512x256 .fp8e4m3
  hx : x.IsWhole
  y : Memref sig .tc .vmem S2x512x256 .fp8e5m2
  hy : y.IsWhole
  h : Memref sig .tc .vmem S256x512 .fp8e4m3
  hh : h.IsWhole
  xs : Memref sig .tc .vmem S1x256 .f32
  hxs : xs.IsWhole
  ds : Memref sig .tc .vmem S1x256 .f32
  hds : ds.IsWhole
  hs : Memref sig .tc .vmem S1x256 .f32
  hhs : hs.IsWhole
  dx : Memref sig .tc .vmem S2x512x256 .bf16
  hdx : dx.IsWhole
  dh : Memref sig .tc .vmem S256x512 .f32
  hdh : dh.IsWhole
  yf : Memref sig .tc .vmem S2x4x256x256 .f32
  hyf : yf.IsWhole
  xf : Memref sig .tc .vmem S2x4x256x256 .f32
  hxf : xf.IsWhole
  hf : Memref sig .tc .vmem S4x256x256 .f32
  hhf : hf.IsWhole
  zf : Memref sig .tc .vmem S12x3x256x256 .bf16
  hzf : zf.IsWhole

/-- A program of the TensorCore that returns nothing. -/
abbrev PG (nD : Nat) (τ : Topo) (sig : RefSig) (F : FTy → Type) (Λ : Labels) :=
  Prog (TpuEff nD τ sig (Elt F) Λ .tc) PUnit

/-- Reads a rectangle. -/
def ld {α : Type} {s : Shape} {e : EltTy} (m : Memref sig .tc .vmem s e) (r : Rect s) (h : 0 < r.shape.numel)
    (K : (r.shape.Idx → Elt F e) → Prog (TpuEff nD τ sig (Elt F) Λ .tc) α) : Prog (TpuEff nD τ sig (Elt F) Λ .tc) α :=
  .op (.load m r.toLoadRect (View.loadsAt_vmem h)) K

/-- Writes a rectangle, after a read of it that nothing uses. -/
def st {α : Type} {s : Shape} {e : EltTy} (m : Memref sig .tc .vmem s e) (r : Rect s) (w : r.shape.Idx → Elt F e)
    (h : 0 < r.shape.numel) (hs : (m.access r).Stores Finset.univ) (K : Prog (TpuEff nD τ sig (Elt F) Λ .tc) α) :
    Prog (TpuEff nD τ sig (Elt F) Λ .tc) α :=
  .op (.load m r.toLoadRect (View.loadsAt_vmem h)) fun _ => .op (.store m r w Finset.univ hs (.inl rfl)) fun _ => K

theorem n_t4 : 0 < S1x1x16x128.numel := by decide
theorem n_t3 : 0 < S1x16x128.numel := by decide
theorem n_b4 : 0 < S1x1x256x256.numel := by decide
theorem n_b3 : 0 < S1x256x256.numel := by decide
theorem n_a : 0 < S1x128x256.numel := by decide
theorem n_w : 0 < S1x512x256.numel := by decide
theorem n_l : 0 < S1x32x256.numel := by decide
theorem n_c : 0 < S256x128.numel := by decide
theorem n_f : 0 < S256x256.numel := by decide
theorem n_s : 0 < S1x256.numel := by decide

theorem pack2 : EltTy.bf16.packing = 2 := by decide

variable (A : Args sig) (hi : FVec F S16x128 .f32 → FVec F S16x128 .f32)

theorem rZ_stores (k n row lane : ℕ) (h : k < 12 ∧ n < 3 ∧ row + 16 ≤ 256 ∧ lane + 128 ≤ 256) (h2 : 2 ∣ row) :
    (A.zf.access (rZ k n row lane h)).Stores Finset.univ :=
  View.stores_vmem n_t4 (A.hzf.storeExact_slice rfl _ (.inr ⟨by decide, rfl, .inl (by rw [pack2]; exact ⟨h2, (by decide : 2 ∣ 16)⟩)⟩)) fun _ => rfl

theorem rX_stores (b o : ℕ) (h : b < 2 ∧ o + 128 ≤ 512) (h2 : 2 ∣ o) : (A.dx.access (rX b o h)).Stores Finset.univ :=
  View.stores_vmem n_a (A.hdx.storeExact_slice rfl _ (.inr ⟨by decide, rfl, .inl (by rw [pack2]; exact ⟨h2, (by decide : 2 ∣ 128)⟩)⟩)) fun _ => rfl

theorem rXw_stores (b : ℕ) (h : b < 2) : (A.dx.access (rXw b h)).Stores Finset.univ :=
  View.stores_vmem n_w (A.hdx.storeExact_slice rfl _ (.inr ⟨by decide, rfl, .inl (by rw [pack2]; exact ⟨Nat.dvd_zero _, (by decide : 2 ∣ 512)⟩)⟩)) fun _ => rfl

/-- The spectrum of one block of the filter. -/
def jobH (j : ℕ) (hj : j < 4) (K : PG nD τ sig F Λ) : PG nD τ sig F Λ :=
  ld A.h (rC (128 * j) (by omega)) n_c fun v =>
  ld A.f2 rF2 n_f fun f2 => ld A.f1 rF1 n_c fun f1 =>
  st A.hf (rHw j hj) (shapeCast S1x256x256 (fwdH (φ := .fp8e4m3) f2 f1 (shapeCast S256x128 v sc_256_128)) sc_b3') n_b3 (View.stores_vmem_bits_univ n_b3 rfl) K

/-- The spectrum of one block of the gradient. -/
def jobY (b j : ℕ) (h : b < 2 ∧ j < 4) (K : PG nD τ sig F Λ) : PG nD τ sig F Λ :=
  ld A.y (rX b (128 * j) (by omega)) n_a fun v =>
  ld A.f2 rF2 n_f fun f2 => ld A.f1 rF1 n_c fun f1 =>
  st A.yf (rYw b j h) (shapeCast S1x1x256x256 (fwdV (φ := .fp8e5m2) f2 f1 (shapeCast S128x256 v sc_a)) sc_b4') n_b4
    (View.stores_vmem_bits_univ n_b4 rfl) K

/-- The spectrum of one block of the input. -/
def jobX (b j : ℕ) (h : b < 2 ∧ j < 4) (K : PG nD τ sig F Λ) : PG nD τ sig F Λ :=
  ld A.x (rX b (128 * j) (by omega)) n_a fun v =>
  ld A.f2 rF2 n_f fun f2 => ld A.f1 rF1 n_c fun f1 =>
  st A.xf (rYw b j h) (shapeCast S1x1x256x256 (fwdV (φ := .fp8e4m3) f2 f1 (shapeCast S128x256 v sc_a)) sc_b4') n_b4
    (View.stores_vmem_bits_univ n_b4 rfl) K

def jobs (j : ℕ) (hj : j < 4) (K : PG nD τ sig F Λ) : PG nD τ sig F Λ :=
  jobH A j hj <| jobY A 0 j ⟨by decide, hj⟩ <| jobX A 0 j ⟨by decide, hj⟩ <|
  jobY A 1 j ⟨by decide, hj⟩ <| jobX A 1 j ⟨by decide, hj⟩ K

/-- Reads a complex tile of one of the two batched spectra. -/
def ldY (m : Memref sig .tc .vmem S2x4x256x256 .f32) (b j r0 l0 : ℕ) (h : b < 2 ∧ j < 4 ∧ r0 + 16 ≤ 128 ∧ l0 + 128 ≤ 256)
    (K : CV F → PG nD τ sig F Λ) : PG nD τ sig F Λ :=
  ld m (rY b j r0 l0 (by omega)) n_t4 fun x => ld m (rY b j (128 + r0) l0 (by omega)) n_t4 fun y =>
  K (shapeCast S16x128 x sc_t4, shapeCast S16x128 y sc_t4)

/-- Reads a complex tile of the filter's spectrum. -/
def ldH (d r0 l0 : ℕ) (h : d < 4 ∧ r0 + 16 ≤ 128 ∧ l0 + 128 ≤ 256) (K : CV F → PG nD τ sig F Λ) : PG nD τ sig F Λ :=
  ld A.hf (rH d r0 l0 (by omega)) n_t3 fun x => ld A.hf (rH d (128 + r0) l0 (by omega)) n_t3 fun y =>
  K (shapeCast S16x128 x sc_t3, shapeCast S16x128 y sc_t3)

/-- A limb as it is stored. -/
def limb (v : FVec F S16x128 .f32) : FVec F S1x1x16x128 .bf16 :=
  shapeCast S1x1x16x128 (truncf .bf16 v lt16 : FVec F S16x128 .bf16) sc_t4'

/-- What is left of a vector without its leading limb. -/
def rest (v : FVec F S16x128 .f32) : FVec F S16x128 .f32 := subf v (hi v)

/-- Stores the three limbs of a tile. -/
def stL (k row l0 : ℕ) (h : k < 12 ∧ row + 16 ≤ 256 ∧ l0 + 128 ≤ 256) (h2 : 2 ∣ row) (v : FVec F S16x128 .f32) (K : PG nD τ sig F Λ) :
    PG nD τ sig F Λ :=
  st A.zf (rZ k 0 row l0 (by omega)) (limb (hi v)) n_t4 (rZ_stores A k 0 row l0 _ h2) <|
  st A.zf (rZ k 1 row l0 (by omega)) (limb (hi (rest hi v))) n_t4 (rZ_stores A k 1 row l0 _ h2) <|
  st A.zf (rZ k 2 row l0 (by omega)) (limb (rest hi (rest hi v))) n_t4 (rZ_stores A k 2 row l0 _ h2) K

/-- Stores a complex tile. -/
def stZ (k r0 l0 : ℕ) (h : k < 12 ∧ r0 + 16 ≤ 128 ∧ l0 + 128 ≤ 256) (h2 : 2 ∣ r0) (z : CV F) (K : PG nD τ sig F Λ) : PG nD τ sig F Λ :=
  stL A hi k r0 l0 (by omega) h2 z.1 <| stL A hi k (128 + r0) l0 (by omega) (by omega) z.2 K

/-- One sequence's part of a tile: reads its spectra and stores the input gradient's four blocks. -/
def tileB (b : ℕ) (hb : b < 2) (pos : Bool) (r0 l0 : ℕ) (h : r0 + 16 ≤ 128 ∧ l0 + 128 ≤ 256) (h2 : 2 ∣ r0) (H : ℕ → CV F)
    (K : (ℕ → CV F) → (ℕ → CV F) → PG nD τ sig F Λ) : PG nD τ sig F Λ :=
  ldY A.yf b 0 r0 l0 (by omega) fun y0 => ldY A.yf b 1 r0 l0 (by omega) fun y1 =>
  ldY A.yf b 2 r0 l0 (by omega) fun y2 => ldY A.yf b 3 r0 l0 (by omega) fun y3 =>
  ldY A.xf b 0 r0 l0 (by omega) fun x0 => ldY A.xf b 1 r0 l0 (by omega) fun x1 =>
  ldY A.xf b 2 r0 l0 (by omega) fun x2 => ldY A.xf b 3 r0 l0 (by omega) fun x3 =>
  stZ A hi (4 * b + 0) r0 l0 (by omega) h2 (zsum (fun d => cm (H d) (win pos y0 y1 y2 y3 (0 + d))) 3) <|
  stZ A hi (4 * b + 1) r0 l0 (by omega) h2 (zsum (fun d => cm (H d) (win pos y0 y1 y2 y3 (1 + d))) 2) <|
  stZ A hi (4 * b + 2) r0 l0 (by omega) h2 (zsum (fun d => cm (H d) (win pos y0 y1 y2 y3 (2 + d))) 1) <|
  stZ A hi (4 * b + 3) r0 l0 (by omega) h2 (zsum (fun d => cm (H d) (win pos y0 y1 y2 y3 (3 + d))) 0) <|
  K (win pos y0 y1 y2 y3) (sel4 x0 x1 x2 x3)

/-- The filter gradient's block `d` of a tile. -/
def dsum (V0 X0 V1 X1 : ℕ → CV F) (d n : ℕ) : CV F :=
  zfrom (zsum (fun j => cm (X0 j) (V0 (j + d))) n) (fun j => cm (X1 j) (V1 (j + d))) n

/-- One tile of the spectral products. -/
def tile (pos : Bool) (r0 l0 : ℕ) (h : r0 + 16 ≤ 128 ∧ l0 + 128 ≤ 256) (h2 : 2 ∣ r0) (K : PG nD τ sig F Λ) : PG nD τ sig F Λ :=
  ldH A 0 r0 l0 (by omega) fun h0 => ldH A 1 r0 l0 (by omega) fun h1 =>
  ldH A 2 r0 l0 (by omega) fun h2' => ldH A 3 r0 l0 (by omega) fun h3 =>
  tileB A hi 0 (by decide) pos r0 l0 h h2 (sel4 h0 h1 h2' h3) fun V0 X0 =>
  tileB A hi 1 (by decide) pos r0 l0 h h2 (sel4 h0 h1 h2' h3) fun V1 X1 =>
  stZ A hi 8 r0 l0 (by omega) h2 (dsum V0 X0 V1 X1 0 3) <|
  stZ A hi 9 r0 l0 (by omega) h2 (dsum V0 X0 V1 X1 1 2) <|
  stZ A hi 10 r0 l0 (by omega) h2 (dsum V0 X0 V1 X1 2 1) <|
  stZ A hi 11 r0 l0 (by omega) h2 (dsum V0 X0 V1 X1 3 0) K

/-- The two tiles of sixteen rows. -/
def tiles (pos : Bool) (r0 : ℕ) (h : r0 + 16 ≤ 128) (h2 : 2 ∣ r0) (K : PG nD τ sig F Λ) : PG nD τ sig F Λ :=
  tile A hi pos r0 0 ⟨h, by decide⟩ h2 <| tile A hi pos r0 128 ⟨h, by decide⟩ h2 K

/-- Reads the operands of one product of the inverse transform. -/
def ldT (k n m : ℕ) (h : k < 12 ∧ n < 3 ∧ m < 3) (K : FVec F S128x256 .f32 → PG nD τ sig F Λ) : PG nD τ sig F Λ :=
  ld A.g (rG m h.2.2) n_a fun g => ld A.zf (rZw k n ⟨h.1, h.2.1⟩) n_b4 fun z => K (invT g z)

/-- The inverse transform of one block. -/
def inv (k : ℕ) (h : k < 12) (K : FVec F S128x256 .f32 → PG nD τ sig F Λ) : PG nD τ sig F Λ :=
  ldT A k 0 0 (by omega) fun a0 => ldT A k 0 1 (by omega) fun a1 => ldT A k 0 2 (by omega) fun a2 =>
  ldT A k 1 0 (by omega) fun a3 => ldT A k 1 1 (by omega) fun a4 => ldT A k 2 0 (by omega) fun a5 =>
  K (addf (addf (addf (addf (addf a0 a1) a2) a3) a4) a5)

/-- One block of the input gradient. -/
def outX (s : FVec F S1x256 .f32) (b i : ℕ) (h : b < 2 ∧ i < 4) (K : PG nD τ sig F Λ) : PG nD τ sig F Λ :=
  inv A (4 * b + i) (by omega) fun v =>
  st A.dx (rX b (128 * i) (by omega))
    (shapeCast S1x128x256 (truncf .bf16 (mulf v (broadcastTo S128x256 s bc_a)) lt16 : FVec F S128x256 .bf16) sc_a') n_a
    (rX_stores A b (128 * i) _ (by omega)) K

/-- One block of the filter gradient. -/
def outH (s : FVec F S1x256 .f32) (d : ℕ) (h : d < 4) (K : PG nD τ sig F Λ) : PG nD τ sig F Λ :=
  inv A (8 + d) (by omega) fun v =>
  st A.dh (rC (128 * d) (by omega))
    (transpose S256x128 [1, 0] (mulf v (broadcastTo S128x256 s bc_a)) tr_a) n_c (View.stores_vmem_bits_univ n_c rfl) K

/-- Clears the rows beyond the last nonzero gradient of one sequence. -/
def clear {α : Type} (b : ℕ) (hb : b < 2) (K : Prog (TpuEff nD τ sig (Elt F) Λ .tc) α) : Prog (TpuEff nD τ sig (Elt F) Λ .tc) α :=
  ld A.y (rXw b hb) n_w fun v => ld A.dx (rXw b hb) n_w fun cur =>
  st A.dx (rXw b hb) (clearV v cur) n_w (rXw_stores A b hb) K

/-- The results from the spectra. -/
def results (sx sh : FVec F S1x256 .f32) (K : PG nD τ sig F Λ) : PG nD τ sig F Λ :=
  outX A sx 0 0 (by decide) <| outX A sx 0 1 (by decide) <| outX A sx 0 2 (by decide) <| outX A sx 0 3 (by decide) <|
  outX A sx 1 0 (by decide) <| outX A sx 1 1 (by decide) <| outX A sx 1 2 (by decide) <| outX A sx 1 3 (by decide) <|
  outH A sh 0 (by decide) <| outH A sh 1 (by decide) <| outH A sh 2 (by decide) <| outH A sh 3 (by decide) K

/-- The last pass over the second sequence. -/
def finish1 : PG nD τ sig F Λ :=
  ld A.y (rXl 1 (by decide)) n_l fun v =>
  if minZero (lastAbs v) = 1#1 then clear A 1 (by decide) (.ret ⟨⟩) else .ret ⟨⟩

/-- The last pass. -/
def finish : PG nD τ sig F Λ :=
  ld A.y (rXl 0 (by decide)) n_l fun v =>
  if minZero (lastAbs v) = 1#1 then clear A 0 (by decide) (finish1 A) else finish1 A

/-- The last pass, with a join in its middle. -/
def finishJ : PG nD τ sig F Λ :=
  ld A.y (rXl 0 (by decide)) n_l fun v =>
  (if minZero (lastAbs v) = 1#1 then clear A 0 (by decide) (ld A.y (rXl 1 (by decide)) n_l fun v => .ret (lastW v))
    else ld A.y (rXl 1 (by decide)) n_l fun v => .ret (lastW v)).bind fun a =>
  if minZero (absL a) = 1#1 then clear A 1 (by decide) (.ret ⟨⟩) else .ret ⟨⟩

/-- The body, up to the form of its last pass. -/
def body (fin : PG nD τ sig F Λ) : PG nD τ sig F Λ :=
  jobs A 0 (by decide) <| jobs A 1 (by decide) <| jobs A 2 (by decide) <| jobs A 3 (by decide) <|
  tiles A hi true 0 (by decide) (by decide) <| tiles A hi true 16 (by decide) (by decide) <|
  tiles A hi true 32 (by decide) (by decide) <| tiles A hi true 48 (by decide) (by decide) <|
  tiles A hi false 64 (by decide) (by decide) <| tiles A hi false 80 (by decide) (by decide) <|
  tiles A hi false 96 (by decide) (by decide) <| tiles A hi false 112 (by decide) (by decide) <|
  ld A.hs rS n_s fun hs => ld A.ds rS n_s fun ds => ld A.ds rS n_s fun ds' => ld A.xs rS n_s fun xs =>
  results A (mulf (shapeCast S1x256 hs sc_1_256 : FVec F S1x256 .f32) (shapeCast S1x256 ds sc_1_256 : FVec F S1x256 .f32))
    (mulf (shapeCast S1x256 ds' sc_1_256 : FVec F S1x256 .f32) (shapeCast S1x256 xs sc_1_256 : FVec F S1x256 .f32)) <|
  fin

end Program

end Conv

end
-- ==== Proof.BodyK.lean ====
module

public import proofs.«01_k».proof.Kernel
public import proofs.«01_k».proof.Proof.Shape

@[expose] public section

/-! The printed body is an instance of the program of `Shape`. -/

set_option maxRecDepth 65536
set_option maxHeartbeats 0
noncomputable section
namespace Cert.Kernel
open Idealize.ShloMosaic Idealize.SL.Sem
variable {F : FTy → Type} [BitOps F] [Facts]

/-- The leading limb of a tile. -/
def hi (v : FVec F Conv.S16x128 .f32) : FVec F Conv.S16x128 .f32 :=
  bitcastToFloat .f32 (andi (bitcastToInt v) (broadcast Conv.S16x128 4294901760#32))

/-- The body, read. -/
theorem body_eq (i : grid0.Coords) (arg1 : Memref sig .tc .vmem S256x256 .bf16) (harg1 : arg1.IsWhole) (arg2 : Memref sig .tc .vmem S256x128 .bf16) (harg2 : arg2.IsWhole) (arg3 : Memref sig .tc .vmem S3x128x256 .bf16) (harg3 : arg3.IsWhole) (arg4 : Memref sig .tc .vmem S2x512x256 .fp8e4m3) (harg4 : arg4.IsWhole) (arg5 : Memref sig .tc .vmem S2x512x256 .fp8e5m2) (harg5 : arg5.IsWhole) (arg6 : Memref sig .tc .vmem S256x512 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S2x512x256 .bf16) (harg10 : arg10.IsWhole) (arg11 : Memref sig .tc .vmem S256x512 .f32) (harg11 : arg11.IsWhole) (arg12 : Memref sig .tc .vmem S2x4x256x256 .f32) (harg12 : arg12.IsWhole) (arg13 : Memref sig .tc .vmem S2x4x256x256 .f32) (harg13 : arg13.IsWhole) (arg14 : Memref sig .tc .vmem S4x256x256 .f32) (harg14 : arg14.IsWhole) (arg15 : Memref sig .tc .vmem S12x3x256x256 .bf16) (harg15 : arg15.IsWhole) :
    cc0_hyena_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = Conv.body ⟨arg1, harg1, arg2, harg2, arg3, harg3, arg4, harg4, arg5, harg5, arg6, harg6, arg7, harg7, arg8, harg8, arg9, harg9, arg10, harg10, arg11, harg11, arg12, harg12, arg13, harg13, arg14, harg14, arg15, harg15⟩ hi (Conv.finish ⟨arg1, harg1, arg2, harg2, arg3, harg3, arg4, harg4, arg5, harg5, arg6, harg6, arg7, harg7, arg8, harg8, arg9, harg9, arg10, harg10, arg11, harg11, arg12, harg12, arg13, harg13, arg14, harg14, arg15, harg15⟩) := by rfl

end Cert.Kernel
-- ==== Proof.Spec.lean ====
module

public import proofs.«01_k».proof.Proof.Shape
public import Idealize.ShloMosaic.Lib.ValueIdx

@[expose] public section

/-! What the body leaves in its arrays, as functions of the inputs: the spectra element by element, and
the results as whole arrays. -/

noncomputable section

namespace Conv

open Idealize.ShloMosaic Idealize.ShloMosaic.ValueIdx

/-- What the input arrays hold. -/
structure In (F : FTy → Type) where
  f2 : Vec F S256x256 .bf16
  f1 : Vec F S256x128 .bf16
  g : Vec F S3x128x256 .bf16
  x : Vec F S2x512x256 .fp8e4m3
  y : Vec F S2x512x256 .fp8e5m2
  h : Vec F S256x512 .fp8e4m3
  xs : Vec F S1x256 .f32
  ds : Vec F S1x256 .f32
  hs : Vec F S1x256 .f32

/-- What the result and scratch arrays hold. -/
structure Mut (F : FTy → Type) where
  dx : Vec F S2x512x256 .bf16
  dh : Vec F S256x512 .f32
  yf : Vec F S2x4x256x256 .f32
  xf : Vec F S2x4x256x256 .f32
  hf : Vec F S4x256x256 .f32
  zf : Vec F S12x3x256x256 .bf16

variable {F : FTy → Type} [FloatOps F]

/-! ### Complex numbers -/

/-- A complex number: its real and imaginary part. -/
abbrev CS (F : FTy → Type) : Type := F .f32 × F .f32

def scm (a v : CS F) : CS F :=
  (FloatOps.addf (FloatOps.mulf a.1 v.1) (FloatOps.mulf a.2 v.2), FloatOps.subf (FloatOps.mulf a.1 v.2) (FloatOps.mulf a.2 v.1))

def saddP (p q : CS F) : CS F := (FloatOps.addf p.1 q.1, FloatOps.addf p.2 q.2)

def szsum (f : ℕ → CS F) : ℕ → CS F
  | 0 => f 0
  | n + 1 => saddP (szsum f n) (f (n + 1))

def szfrom (z : CS F) (f : ℕ → CS F) : ℕ → CS F
  | 0 => saddP z (f 0)
  | n + 1 => saddP (szfrom z f n) (f (n + 1))

def swin1 (pos : Bool) (a b : CS F) : CS F :=
  match pos with
  | true => (FloatOps.addf a.1 b.2, FloatOps.subf a.2 b.1)
  | false => (FloatOps.subf a.1 b.2, FloatOps.addf a.2 b.1)

def swin (pos : Bool) (y0 y1 y2 y3 : CS F) : ℕ → CS F :=
  sel4 (swin1 pos y0 y1) (swin1 pos y1 y2) (swin1 pos y2 y3) y3

/-- An element of a complex tile. -/
def atI (p : CV F) (i : S16x128.Idx) : CS F := (p.1 i, p.2 i)

theorem at_cm (a v : CV F) (i : S16x128.Idx) : atI (cm a v) i = scm (atI a i) (atI v i) := rfl

theorem at_zsum (f : ℕ → CV F) (n : ℕ) (i : S16x128.Idx) : atI (zsum f n) i = szsum (fun d => atI (f d) i) n := by
  induction n with
  | zero => rfl
  | succ n ih => unfold szsum; rw [← ih]; rfl

theorem at_zfrom (z : CV F) (f : ℕ → CV F) (n : ℕ) (i : S16x128.Idx) :
    atI (zfrom z f n) i = szfrom (atI z i) (fun d => atI (f d) i) n := by
  induction n with
  | zero => rfl
  | succ n ih => unfold szfrom; rw [← ih]; rfl

theorem at_sel4 (a b c d : CV F) (n : ℕ) (i : S16x128.Idx) :
    atI (sel4 a b c d n) i = sel4 (atI a i) (atI b i) (atI c i) (atI d i) n := by
  match n with
  | 0 => rfl
  | 1 => rfl
  | 2 => rfl
  | _ + 3 => rfl

theorem at_win1 (pos : Bool) (a b : CV F) (i : S16x128.Idx) : atI (win1 pos a b) i = swin1 pos (atI a i) (atI b i) := by
  cases pos <;> rfl

theorem at_win (pos : Bool) (a b c d : CV F) (n : ℕ) (i : S16x128.Idx) :
    atI (win pos a b c d n) i = swin pos (atI a i) (atI b i) (atI c i) (atI d i) n := by
  unfold win swin
  rw [at_sel4, at_win1, at_win1, at_win1]

/-! ### The forward spectra -/

variable (I : In F)

def f2V : Vec F S256x256 .bf16 := fun i => I.f2 (rF2.emb i)

def f1V : Vec F S256x128 .bf16 := fun i => I.f1 (rF1.emb i)

/-- Block `j` of a sequence. -/
def blkX {e : EltTy} (x : Vec F S2x512x256 e) (b : Fin 2) (j : Fin 4) : Vec F S128x256 e :=
  shapeCast S128x256 (fun i => x ((rX b.val (128 * j.val) (by omega)).emb i)) sc_a

/-- Block `j` of the filter. -/
def blkH (j : Fin 4) : Vec F S256x128 .fp8e4m3 :=
  shapeCast S256x128 (fun i => I.h ((rC (128 * j.val) (by omega)).emb i)) sc_256_128

def jY (b : Fin 2) (j : Fin 4) : FVec F S256x256 .f32 := fwdV (φ := .fp8e5m2) (f2V I) (f1V I) (blkX I.y b j)

def jX (b : Fin 2) (j : Fin 4) : FVec F S256x256 .f32 := fwdV (φ := .fp8e4m3) (f2V I) (f1V I) (blkX I.x b j)

def jH (j : Fin 4) : FVec F S256x256 .f32 := fwdH (φ := .fp8e4m3) (f2V I) (f1V I) (blkH I j)

def gY : Vec F S2x4x256x256 .f32 := fun q => jY I (q 0) (q 1) (ix2 (q 2) (q 3))

def gX : Vec F S2x4x256x256 .f32 := fun q => jX I (q 0) (q 1) (ix2 (q 2) (q 3))

def gH : Vec F S4x256x256 .f32 := fun q => jH I (q 0) (ix2 (q 1) (q 2))

/-! ### The spectra of the result blocks -/

/-- The two halves of a column of a spectrum, as one complex number. -/
def cplx (v : FVec F S256x256 .f32) (r : Fin 128) (l : Fin 256) : CS F :=
  (v (ix2 ⟨r.val, by omega⟩ l), v (ix2 ⟨128 + r.val, by omega⟩ l))

/-- Whether a row's frequency has the positive sign. -/
def posR (r : Fin 128) : Bool := decide (r.val < 64)

/-- The windows' spectra at one frequency and lane. -/
def sV (b : Fin 2) (r : Fin 128) (l : Fin 256) : ℕ → CS F :=
  swin (posR r) (cplx (jY I b 0) r l) (cplx (jY I b 1) r l) (cplx (jY I b 2) r l) (cplx (jY I b 3) r l)

def sX (b : Fin 2) (r : Fin 128) (l : Fin 256) : ℕ → CS F :=
  sel4 (cplx (jX I b 0) r l) (cplx (jX I b 1) r l) (cplx (jX I b 2) r l) (cplx (jX I b 3) r l)

def sH (r : Fin 128) (l : Fin 256) : ℕ → CS F :=
  sel4 (cplx (jH I 0) r l) (cplx (jH I 1) r l) (cplx (jH I 2) r l) (cplx (jH I 3) r l)

/-- The spectrum of block `i` of the input gradient. -/
def zX (b : Fin 2) (i : ℕ) (r : Fin 128) (l : Fin 256) : CS F :=
  szsum (fun d => scm (sH I r l d) (sV I b r l (i + d))) (3 - i)

/-- The spectrum of block `d` of the filter gradient. -/
def zH (d : ℕ) (r : Fin 128) (l : Fin 256) : CS F :=
  szfrom (szsum (fun j => scm (sX I 0 r l j) (sV I 0 r l (j + d))) (3 - d)) (fun j => scm (sX I 1 r l j) (sV I 1 r l (j + d))) (3 - d)

def zAll (k : ℕ) (r : Fin 128) (l : Fin 256) : CS F :=
  if k < 4 then zX I 0 k r l else if k < 8 then zX I 1 (k - 4) r l else zH I (k - 8) r l

def zval (k : ℕ) (row l : Fin 256) : F .f32 :=
  if h : row.val < 128 then (zAll I k ⟨row.val, h⟩ l).1 else (zAll I k ⟨row.val - 128, by omega⟩ l).2

variable (hi1 : F .f32 → F .f32)

/-- What is left without the leading limb. -/
def rest1 (v : F .f32) : F .f32 := FloatOps.subf v (hi1 v)

/-- A limb as it is stored. -/
def limbS (n : ℕ) (v : F .f32) : F .bf16 :=
  match n with
  | 0 => FloatOps.truncf .bf16 lt16 (hi1 v)
  | 1 => FloatOps.truncf .bf16 lt16 (hi1 (rest1 hi1 v))
  | _ => FloatOps.truncf .bf16 lt16 (rest1 hi1 (rest1 hi1 v))

def gZ : Vec F S12x3x256x256 .bf16 := fun q => limbS hi1 (q 1).val (zval I (q 0).val (q 2) (q 3))

/-! ### The results -/

/-- One product of the inverse transform. -/
def invP (k : Fin 12) (n m : Fin 3) : FVec F S128x256 .f32 :=
  invT (fun i => I.g ((rG m.val m.isLt).emb i)) (fun i => gZ I hi1 ((rZw k.val n.val ⟨k.isLt, n.isLt⟩).emb i))

/-- The inverse transform of one block. -/
def invV (k : Fin 12) : FVec F S128x256 .f32 :=
  addf (addf (addf (addf (addf (invP I hi1 k 0 0) (invP I hi1 k 0 1)) (invP I hi1 k 0 2)) (invP I hi1 k 1 0)) (invP I hi1 k 1 1))
    (invP I hi1 k 2 0)

def rowV (v : Vec F S1x256 .f32) : FVec F S1x256 .f32 := shapeCast S1x256 (fun i => v (rS.emb i)) sc_1_256

/-- The input gradient's scale. -/
def scX : FVec F S1x256 .f32 := mulf (rowV I.hs) (rowV I.ds)

/-- The filter gradient's scale. -/
def scH : FVec F S1x256 .f32 := mulf (rowV I.ds) (rowV I.xs)

def outXV (k : Fin 12) : FVec F S128x256 .bf16 := truncf .bf16 (mulf (invV I hi1 k) (broadcastTo S128x256 (scX I) bc_a)) lt16

def outHV (k : Fin 12) : FVec F S256x128 .f32 := transpose S256x128 [1, 0] (mulf (invV I hi1 k) (broadcastTo S128x256 (scH I) bc_a)) tr_a

/-- The input gradient before rows are cleared. -/
def dx0 : Vec F S2x512x256 .bf16 := fun q =>
  outXV I hi1 ⟨4 * (q 0).val + (q 1).val / 128, by have := (q 0).isLt; have := (q 1).isLt; simp at *; omega⟩
    (ix2 ⟨(q 1).val % 128, Nat.mod_lt _ (by decide)⟩ (q 2))

/-- The filter gradient. -/
def dhF : Vec F S256x512 .f32 := fun q =>
  outHV I hi1 ⟨8 + (q 1).val / 128, by have := (q 1).isLt; simp at *; omega⟩ (ix2 (q 0) ⟨(q 1).val % 128, Nat.mod_lt _ (by decide)⟩)

/-- Whether rows of a sequence are cleared. -/
def clr (b : Fin 2) : Prop := minZero (lastAbs (fun i => I.y ((rXl b.val b.isLt).emb i))) = 1#1

/-- A sequence with the rows beyond its last nonzero gradient cleared. -/
def clrV (b : Fin 2) : FVec F S1x512x256 .bf16 :=
  clearV (fun i => I.y ((rXw b.val b.isLt).emb i)) (fun i => dx0 I hi1 ((rXw b.val b.isLt).emb i))

open Classical in
/-- The input gradient. -/
def dxF : Vec F S2x512x256 .bf16 := fun q => if clr I (q 0) then clrV I hi1 (q 0) (ix3 0 (q 1) (q 2)) else dx0 I hi1 q

end Conv

end
-- ==== Proof.Own.lean ====
module

public import proofs.«01_k».proof.Proof.Spec
public import Idealize.ShloMosaic.Lib.Memref
public import Idealize.ShloMosaic.Lib.Writes
public import Idealize.ShloMosaic.Lib.Pipeline.FrameBody
public import Idealize.ShloMosaic.Lib.Tactic

@[expose] public section

/-! What one read and one write of a rectangle do to an owned array, and the state of all the
body's arrays together with the rules that step a program over it. -/

noncomputable section

namespace Conv

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Rounds Idealize.ShloMosaic.Pipeline

section Rules

variable {nD : Nat} {τ : Topo} {sig : RefSig} {F : FTy → Type} [FloatOps F] {Λ : Labels}
variable {Ix : Type} [DecidableEq Ix] {Name : Type} [DecidableEq Name] {U : Type} [URA U] {Lvl : Type} [Preorder Lvl]
variable (defs : Defs nD τ sig (Elt F) Λ) (𝒱 : Variants) (bd : Option 𝒱.V) (c : Dev nD)

local notation "𝕄" => MT nD τ sig Ix (Elt F) Name U Lvl

/-- A read through a rectangle. -/
theorem own_ld {α : Type} {s : Shape} {e : EltTy} (m : Memref sig .tc .vmem s e) (r : Rect s) (h : 0 < r.shape.numel)
    (K : (r.shape.Idx → Elt F e) → Prog (TpuEff nD τ sig (Elt F) Λ .tc) α) (X : s.Idx → Elt F e) (E : Set Name) (Q : α → sProp 𝕄) :
    owns (c : Thread nD τ) m fullShare X
      ⊢ iprop((owns (c : Thread nD τ) m fullShare X -∗ wp frame (wpE defs 𝒱 (c : Thread nD τ) bd) E (K (fun i => X (r.emb i))) Q)
        -∗ wp frame (wpE defs 𝒱 (c : Thread nD τ) bd) E (ld m r h K) Q) := by
  unfold owns
  iintro ⟨%f, %hf, H⟩
  subst hf
  unfold ld
  iintro Hk
  iapply (wp_load_rect (defs := defs) 𝒱 (c : Thread nD τ) bd E (Q := Q) (m := m) (r := r) (hl := View.loadsAt_vmem h) (k := K) (f := f)
    (q := fullShare) (S := m.view.set) (m.view.set_slice_subset r)) $$ H
  iintro H
  iapply Hk
  iexists f
  isplitr
  · ipureintro; rfl
  iexact H

/-- What a view reads after a write through one of its rectangles. -/
theorem read_write_overlay {s : Shape} {e : EltTy} (m : Memref sig .tc .vmem s e) (r : Rect s) (f : m.view.ty.Contents (Elt F))
    (w : r.shape.Idx → Elt F e) :
    m.view.read (Elt F) ((m.access r).write (Elt F) f w Finset.univ) = r.overlay (m.view.read (Elt F) f) w := by
  funext j
  by_cases hj : j ∈ r.set
  · obtain ⟨i, rfl⟩ : ∃ i, r.emb i = j := r.exists_idx_of_mem hj
    rw [Rect.overlay_emb]
    exact View.read_writes_cons_emb m.view f r w [] i
  · rw [Rect.overlay_of_not_mem _ _ _ hj]
    exact View.read_writes_cons_miss m.view f ⟨r, w⟩ [] j hj

/-- A write through a rectangle. -/
theorem own_st {α : Type} {s : Shape} {e : EltTy} (m : Memref sig .tc .vmem s e) (r : Rect s) (w : r.shape.Idx → Elt F e)
    (h : 0 < r.shape.numel) (hs : (m.access r).Stores Finset.univ) (K : Prog (TpuEff nD τ sig (Elt F) Λ .tc) α) (X : s.Idx → Elt F e)
    (E : Set Name) (Q : α → sProp 𝕄) :
    owns (c : Thread nD τ) m fullShare X
      ⊢ iprop((owns (c : Thread nD τ) m fullShare (r.overlay X w) -∗ wp frame (wpE defs 𝒱 (c : Thread nD τ) bd) E K Q)
        -∗ wp frame (wpE defs 𝒱 (c : Thread nD τ) bd) E (st m r w h hs K) Q) := by
  unfold st
  iintro H Hk
  iapply (own_ld defs 𝒱 bd c m r h (fun _ => Prog.op (.store m r w Finset.univ hs (.inl rfl)) fun _ => K) X E Q) $$ H
  unfold owns
  iintro ⟨%f, %hf, H⟩
  subst hf
  iapply (wp_store (defs := defs) 𝒱 (c : Thread nD τ) bd E (Q := Q) (m := m) (r := r) (w := w) (Mk := Finset.univ) (hx := hs)
    (hm := .inl rfl) (k := fun _ => K) (f := f) (S := m.view.set) (m.setOn_access_subset r Finset.univ)) $$ H
  iintro H
  iapply Hk
  iexists _
  isplitr
  swap
  · iexact H
  · ipureintro
    exact read_write_overlay m r f w

/-- The assertions of a list, all at once. -/
def sepL : List (sProp 𝕄) → sProp 𝕄
  | [] => emp
  | P :: L => iprop(P ∗ sepL L)

/-- One of the assertions taken out, to be put back changed. -/
theorem sepL_acc (P P' : sProp 𝕄) : ∀ (L : List (sProp 𝕄)) (i : ℕ), L[i]? = some P →
    sepL L ⊢ iprop(P ∗ (P' -∗ sepL (L.set i P')))
  | [], _, h => by simp at h
  | R :: L, 0, h => by
    obtain rfl : R = P := by simpa using h
    rw [List.set_cons_zero]
    unfold sepL
    iintro ⟨H, HL⟩
    isplitl [H]
    · iexact H
    iintro H
    isplitl [H]
    · iexact H
    iexact HL
  | R :: L, i + 1, h => by
    have ih := sepL_acc P P' L i (by simpa using h)
    rw [List.set_cons_succ]
    unfold sepL
    iintro ⟨H, HL⟩
    ihave HL' := ih $$ HL
    icases HL' with ⟨HP, HL⟩
    isplitl [HP]
    · iexact HP
    iintro HP
    isplitl [H]
    · iexact H
    iapply HL
    iexact HP

end Rules

section Ok

variable {nD : Nat} {τ : Topo} {sig : RefSig} {F : FTy → Type} [FloatOps F] {Λ : Labels}

local notation "𝕄" => MT nD τ sig Unit (Elt F) ℕ (UR sig nD τ) ℕ

/-- What a run of the body is about: the definitions in force, the core, the arrays and the inputs. -/
structure Ctx (nD : Nat) (τ : Topo) (sig : RefSig) (F : FTy → Type) [FloatOps F] (Λ : Labels) where
  defs : Defs nD τ sig (Elt F) Λ
  𝒱 : Variants
  bd : Option 𝒱.V
  c : Dev nD
  A : Args sig
  I : In F

variable (C : Ctx nD τ sig F Λ)

/-- The arrays, each owned at its contents. -/
def cells (s : Mut F) : List (sProp 𝕄) :=
  [owns (C.c : Thread nD τ) C.A.f2 fullShare C.I.f2, owns (C.c : Thread nD τ) C.A.f1 fullShare C.I.f1,
   owns (C.c : Thread nD τ) C.A.g fullShare C.I.g, owns (C.c : Thread nD τ) C.A.x fullShare C.I.x,
   owns (C.c : Thread nD τ) C.A.y fullShare C.I.y, owns (C.c : Thread nD τ) C.A.h fullShare C.I.h,
   owns (C.c : Thread nD τ) C.A.xs fullShare C.I.xs, owns (C.c : Thread nD τ) C.A.ds fullShare C.I.ds,
   owns (C.c : Thread nD τ) C.A.hs fullShare C.I.hs,
   owns (C.c : Thread nD τ) C.A.dx fullShare s.dx, owns (C.c : Thread nD τ) C.A.dh fullShare s.dh,
   owns (C.c : Thread nD τ) C.A.yf fullShare s.yf, owns (C.c : Thread nD τ) C.A.xf fullShare s.xf,
   owns (C.c : Thread nD τ) C.A.hf fullShare s.hf, owns (C.c : Thread nD τ) C.A.zf fullShare s.zf]

/-- A program run over the arrays ends with contents of which `Q` holds. -/
def Ok (s : Mut F) (p : PG nD τ sig F Λ) (Q : Mut F → Prop) : Prop :=
  ∀ E : Set ℕ, sepL (cells C s) ⊢ wp frame (wpE C.defs C.𝒱 (C.c : Thread nD τ) C.bd) E p
    (fun _ => (iprop(∃ s', ⌜Q s'⌝ ∗ sepL (cells C s')) : sProp 𝕄))

variable {C} {s s' : Mut F} {Q : Mut F → Prop}

/-- The run used: what it needs and what is kept beside it give whatever its end and the kept part give. -/
theorem Ok.use {p : PG nD τ sig F Λ} (H : Ok C s p Q) (E : Set ℕ) (R : sProp 𝕄) (P : PUnit → sProp 𝕄)
    (h : ∀ s', Q s' → iprop(R ∗ sepL (cells C s')) ⊢ P ⟨⟩) :
    iprop(R ∗ sepL (cells C s)) ⊢ wp frame (wpE C.defs C.𝒱 (C.c : Thread nD τ) C.bd) E p P := by
  refine (sep_mono .rfl (H E)).trans ?_
  have h1 := wp_frame_l frame (wpE C.defs C.𝒱 (C.c : Thread nD τ) C.bd) E (p := p) (R := R)
    (Q := fun _ => (iprop(∃ s', ⌜Q s'⌝ ∗ sepL (cells C s')) : sProp 𝕄))
  refine h1.trans (wp_mono frame _ E fun a => ?_)
  iintro ⟨HR, %s', %hq, HL⟩
  iapply (h s' hq)
  isplitl [HR]
  · iexact HR
  iexact HL

theorem Ok.ret (h : Q s) : Ok C s (.ret ⟨⟩) Q := fun E => by
  refine Entails.trans ?_ (le_wp_ret _ _ _ _ _)
  iintro H
  iexists s
  isplitr
  · ipureintro; exact h
  iexact H

theorem Ok.ld {sh : Shape} {e : EltTy} {m : Memref sig .tc .vmem sh e} {r : Rect sh} {h : 0 < r.shape.numel}
    {K : (r.shape.Idx → Elt F e) → PG nD τ sig F Λ} {X : sh.Idx → Elt F e} (i : ℕ)
    (hL : (cells C s)[i]? = some (owns (C.c : Thread nD τ) m fullShare X))
    (hK : Ok C s (K (fun i => X (r.emb i))) Q) : Ok C s (ld m r h K) Q := fun E => by
  refine (sepL_acc _ (owns (C.c : Thread nD τ) m fullShare X) _ i hL).trans ?_
  obtain ⟨hi, hX⟩ := List.getElem?_eq_some_iff.mp hL
  have hset : (cells C s).set i (owns (C.c : Thread nD τ) m fullShare X) = cells C s := by rw [← hX]; exact List.set_getElem_self hi
  rw [hset]
  iintro ⟨H, HL⟩
  iapply (own_ld C.defs C.𝒱 C.bd C.c m r h K X E _) $$ H
  iintro H
  iapply (hK E)
  iapply HL
  iexact H

theorem Ok.st {sh : Shape} {e : EltTy} {m : Memref sig .tc .vmem sh e} {r : Rect sh} {w : r.shape.Idx → Elt F e}
    {h : 0 < r.shape.numel} {hs : (m.access r).Stores Finset.univ} {K : PG nD τ sig F Λ} {X : sh.Idx → Elt F e} (i : ℕ)
    (hL : (cells C s)[i]? = some (owns (C.c : Thread nD τ) m fullShare X))
    (hL' : (cells C s).set i (owns (C.c : Thread nD τ) m fullShare (r.overlay X w)) = cells C s')
    (hK : Ok C s' K Q) : Ok C s (st m r w h hs K) Q := fun E => by
  refine (sepL_acc _ (owns (C.c : Thread nD τ) m fullShare (r.overlay X w)) _ i hL).trans ?_
  rw [hL']
  iintro ⟨H, HL⟩
  iapply (own_st C.defs C.𝒱 C.bd C.c m r w h hs K X E _) $$ H
  iintro H
  iapply (hK E)
  iapply HL
  iexact H

end Ok

end Conv

end
-- ==== Proof.Places.lean ====
module

public import proofs.«01_k».proof.Proof.Spec
public import Idealize.ShloMosaic.Lib.Pipeline.Value

@[expose] public section

/-! Where the body's rectangles lie in their arrays, and what a shape cast of a tile or a block reads. -/

noncomputable section

namespace Conv

open Idealize.ShloMosaic Idealize.ShloMosaic.ValueIdx

theorem unit_emb_val {s : Shape} {off size : Fin s.rank → ℕ} {inb} (i : (Rect.unit (s := s) off size inb).shape.Idx) (a : Fin s.rank) :
    ((Rect.unit (s := s) off size inb).emb i a).val = off a + (i a).val := by
  rw [Rect.emb_apply, Rect.stride_unit, Rect.off_unit, Nat.one_mul]

theorem emb_rYw (b j : ℕ) (h : b < 2 ∧ j < 4) (i : S1x1x256x256.Idx) :
    (rYw b j h).emb i = ix4 (n0 := 2) (n1 := 4) (n2 := 256) (n3 := 256) ⟨b, h.1⟩ ⟨j, h.2⟩ (i 2) (i 3) := by
  have h0 : (i 0).val < 1 := (i 0).isLt
  have h1 : (i 1).val < 1 := (i 1).isLt
  funext a; apply Fin.ext; refine (unit_emb_val (s := _) i a).trans ?_
  fin_cases a <;> simp <;> omega

theorem emb_rHw (d : ℕ) (h : d < 4) (i : S1x256x256.Idx) :
    (rHw d h).emb i = ix3 (n0 := 4) (n1 := 256) (n2 := 256) ⟨d, h⟩ (i 1) (i 2) := by
  have h0 : (i 0).val < 1 := (i 0).isLt
  funext a; apply Fin.ext; refine (unit_emb_val (s := _) i a).trans ?_
  fin_cases a <;> simp <;> omega

theorem emb_rY (b j row lane : ℕ) (h : b < 2 ∧ j < 4 ∧ row + 16 ≤ 256 ∧ lane + 128 ≤ 256) (i : S1x1x16x128.Idx) :
    (rY b j row lane h).emb i = ix4 (n0 := 2) (n1 := 4) (n2 := 256) (n3 := 256) ⟨b, h.1⟩ ⟨j, h.2.1⟩
      ⟨row + (i 2).val, by have : (i 2).val < 16 := (i 2).isLt; omega⟩ ⟨lane + (i 3).val, by have : (i 3).val < 128 := (i 3).isLt; omega⟩ := by
  have h0 : (i 0).val < 1 := (i 0).isLt
  have h1 : (i 1).val < 1 := (i 1).isLt
  funext a; apply Fin.ext; refine (unit_emb_val (s := _) i a).trans ?_
  fin_cases a <;> simp <;> omega

theorem emb_rH (d row lane : ℕ) (h : d < 4 ∧ row + 16 ≤ 256 ∧ lane + 128 ≤ 256) (i : S1x16x128.Idx) :
    (rH d row lane h).emb i = ix3 (n0 := 4) (n1 := 256) (n2 := 256) ⟨d, h.1⟩
      ⟨row + (i 1).val, by have : (i 1).val < 16 := (i 1).isLt; omega⟩ ⟨lane + (i 2).val, by have : (i 2).val < 128 := (i 2).isLt; omega⟩ := by
  have h0 : (i 0).val < 1 := (i 0).isLt
  funext a; apply Fin.ext; refine (unit_emb_val (s := _) i a).trans ?_
  fin_cases a <;> simp <;> omega

theorem emb_rZ (k n row lane : ℕ) (h : k < 12 ∧ n < 3 ∧ row + 16 ≤ 256 ∧ lane + 128 ≤ 256) (i : S1x1x16x128.Idx) :
    (rZ k n row lane h).emb i = ix4 (n0 := 12) (n1 := 3) (n2 := 256) (n3 := 256) ⟨k, h.1⟩ ⟨n, h.2.1⟩
      ⟨row + (i 2).val, by have : (i 2).val < 16 := (i 2).isLt; omega⟩ ⟨lane + (i 3).val, by have : (i 3).val < 128 := (i 3).isLt; omega⟩ := by
  have h0 : (i 0).val < 1 := (i 0).isLt
  have h1 : (i 1).val < 1 := (i 1).isLt
  funext a; apply Fin.ext; refine (unit_emb_val (s := _) i a).trans ?_
  fin_cases a <;> simp <;> omega

theorem emb_rX (b o : ℕ) (h : b < 2 ∧ o + 128 ≤ 512) (i : S1x128x256.Idx) :
    (rX b o h).emb i = ix3 (n0 := 2) (n1 := 512) (n2 := 256) ⟨b, h.1⟩
      ⟨o + (i 1).val, by have : (i 1).val < 128 := (i 1).isLt; omega⟩ (i 2) := by
  have h0 : (i 0).val < 1 := (i 0).isLt
  funext a; apply Fin.ext; refine (unit_emb_val (s := _) i a).trans ?_
  fin_cases a <;> simp <;> omega

theorem emb_rXw (b : ℕ) (h : b < 2) (i : S1x512x256.Idx) :
    (rXw b h).emb i = ix3 (n0 := 2) (n1 := 512) (n2 := 256) ⟨b, h⟩ (i 1) (i 2) := by
  have h0 : (i 0).val < 1 := (i 0).isLt
  funext a; apply Fin.ext; refine (unit_emb_val (s := _) i a).trans ?_
  fin_cases a <;> simp <;> omega

theorem emb_rC (o : ℕ) (h : o + 128 ≤ 512) (i : S256x128.Idx) :
    (rC o h).emb i = ix2 (n0 := 256) (n1 := 512) (i 0) ⟨o + (i 1).val, by have : (i 1).val < 128 := (i 1).isLt; omega⟩ := by
  funext a; apply Fin.ext; refine (unit_emb_val (s := _) i a).trans ?_
  fin_cases a <;> simp <;> omega

theorem mem_rYw {b j : ℕ} {h : b < 2 ∧ j < 4} {q : S2x4x256x256.Idx} (h0 : (q 0).val = b) (h1 : (q 1).val = j) :
    q ∈ (rYw b j h).set := by
  have h2 : (q 2).val < 256 := (q 2).isLt
  have h3 : (q 3).val < 256 := (q 3).isLt
  rw [rYw, Rect.mem_set_unit]
  intro a; fin_cases a <;> simp <;> omega

theorem mem_rHw {d : ℕ} {h : d < 4} {q : S4x256x256.Idx} (h0 : (q 0).val = d) : q ∈ (rHw d h).set := by
  have h1 : (q 1).val < 256 := (q 1).isLt
  have h2 : (q 2).val < 256 := (q 2).isLt
  rw [rHw, Rect.mem_set_unit]
  intro a; fin_cases a <;> simp <;> omega

theorem mem_rZ {k n row lane : ℕ} {h : k < 12 ∧ n < 3 ∧ row + 16 ≤ 256 ∧ lane + 128 ≤ 256} {q : S12x3x256x256.Idx}
    (h0 : (q 0).val = k) (h1 : (q 1).val = n) (h2 : row ≤ (q 2).val ∧ (q 2).val < row + 16)
    (h3 : lane ≤ (q 3).val ∧ (q 3).val < lane + 128) : q ∈ (rZ k n row lane h).set := by
  rw [rZ, Rect.mem_set_unit]
  intro a; fin_cases a <;> simp <;> omega

theorem mem_rX {b o : ℕ} {h : b < 2 ∧ o + 128 ≤ 512} {q : S2x512x256.Idx} (h0 : (q 0).val = b)
    (h1 : o ≤ (q 1).val ∧ (q 1).val < o + 128) : q ∈ (rX b o h).set := by
  have h2 : (q 2).val < 256 := (q 2).isLt
  rw [rX, Rect.mem_set_unit]
  intro a; fin_cases a <;> simp <;> omega

theorem mem_rXw {b : ℕ} {h : b < 2} {q : S2x512x256.Idx} : q ∈ (rXw b h).set ↔ (q 0).val = b := by
  have h1 : (q 1).val < 512 := (q 1).isLt
  have h2 : (q 2).val < 256 := (q 2).isLt
  rw [rXw, Rect.mem_set_unit]
  constructor
  · intro hq
    have := hq 0
    simp at this
    omega
  · intro h0 a
    fin_cases a <;> simp <;> omega

theorem mem_rC {o : ℕ} {h : o + 128 ≤ 512} {q : S256x512.Idx} (h1 : o ≤ (q 1).val ∧ (q 1).val < o + 128) :
    q ∈ (rC o h).set := by
  have h0 : (q 0).val < 256 := (q 0).isLt
  rw [rC, Rect.mem_set_unit]
  intro a; fin_cases a <;> simp <;> omega

variable {α : Type}

theorem cast_t4 (x : S1x1x16x128.Idx → α) (i : S16x128.Idx) :
    shapeCast S16x128 x sc_t4 i = x (ix4 (n0 := 1) (n1 := 1) (n2 := 16) (n3 := 128) 0 0 (i 0) (i 1)) :=
  shapeCast_apply _ _ _ _ (by rw [Shape.rowMajor_val_four, Shape.rowMajor_val_two]; simp)

theorem cast_t4' (x : S16x128.Idx → α) (i : S1x1x16x128.Idx) :
    shapeCast S1x1x16x128 x sc_t4' i = x (ix2 (n0 := 16) (n1 := 128) (i 2) (i 3)) :=
  shapeCast_apply _ _ _ _ (by
    have h0 : (i 0).val < 1 := (i 0).isLt
    have h1 : (i 1).val < 1 := (i 1).isLt
    rw [Shape.rowMajor_val_four, Shape.rowMajor_val_two]; simp; omega)

theorem cast_t3 (x : S1x16x128.Idx → α) (i : S16x128.Idx) :
    shapeCast S16x128 x sc_t3 i = x (ix3 (n0 := 1) (n1 := 16) (n2 := 128) 0 (i 0) (i 1)) :=
  shapeCast_apply _ _ _ _ (by rw [Shape.rowMajor_val_three, Shape.rowMajor_val_two]; simp)

theorem cast_b4' (x : S256x256.Idx → α) (i : S1x1x256x256.Idx) :
    shapeCast S1x1x256x256 x sc_b4' i = x (ix2 (n0 := 256) (n1 := 256) (i 2) (i 3)) :=
  shapeCast_apply _ _ _ _ (by
    have h0 : (i 0).val < 1 := (i 0).isLt
    have h1 : (i 1).val < 1 := (i 1).isLt
    rw [Shape.rowMajor_val_four, Shape.rowMajor_val_two]; simp; omega)

theorem cast_b4 (x : S1x1x256x256.Idx → α) (i : S256x256.Idx) :
    shapeCast S256x256 x sc_b4 i = x (ix4 (n0 := 1) (n1 := 1) (n2 := 256) (n3 := 256) 0 0 (i 0) (i 1)) :=
  shapeCast_apply _ _ _ _ (by rw [Shape.rowMajor_val_four, Shape.rowMajor_val_two]; simp)

theorem cast_b3' (x : S256x256.Idx → α) (i : S1x256x256.Idx) :
    shapeCast S1x256x256 x sc_b3' i = x (ix2 (n0 := 256) (n1 := 256) (i 1) (i 2)) :=
  shapeCast_apply _ _ _ _ (by
    have h0 : (i 0).val < 1 := (i 0).isLt
    rw [Shape.rowMajor_val_three, Shape.rowMajor_val_two]; simp; omega)

theorem cast_a (x : S1x128x256.Idx → α) (i : S128x256.Idx) :
    shapeCast S128x256 x sc_a i = x (ix3 (n0 := 1) (n1 := 128) (n2 := 256) 0 (i 0) (i 1)) :=
  shapeCast_apply _ _ _ _ (by rw [Shape.rowMajor_val_three, Shape.rowMajor_val_two]; simp)

theorem cast_a' (x : S128x256.Idx → α) (i : S1x128x256.Idx) :
    shapeCast S1x128x256 x sc_a' i = x (ix2 (n0 := 128) (n1 := 256) (i 1) (i 2)) :=
  shapeCast_apply _ _ _ _ (by
    have h0 : (i 0).val < 1 := (i 0).isLt
    rw [Shape.rowMajor_val_three, Shape.rowMajor_val_two]; simp; omega)

end Conv

end
-- ==== Proof.Triple.lean ====
module

public import proofs.«01_k».proof.Proof.Own
public import proofs.«01_k».proof.Proof.Places

@[expose] public section

/-! The body's first two parts, run: the forward spectra of all blocks, and the spectra of the result
blocks tile by tile. Contents are tracked by the places at which an array is known to hold its final
values. -/

noncomputable section

namespace Conv

open Idealize.ShloMosaic Idealize.ShloMosaic.TcCoe Idealize.ShloMosaic.ValueIdx
open Idealize.SL.Sem

/-- `X` is `G` at the places of `D`. -/
def Agree {s : Shape} {α : Type} (X G : s.Idx → α) (D : s.Idx → Prop) : Prop := ∀ q, D q → X q = G q

section

variable {s : Shape} {α : Type} {X G : s.Idx → α} {D D' : s.Idx → Prop}

theorem Agree.overlay (r : Rect s) (w : r.shape.Idx → α) (h : Agree X G D) (hw : ∀ i, w i = G (r.emb i)) :
    Agree (r.overlay X w) G (fun q => D q ∨ q ∈ r.set) := by
  intro q hq
  by_cases hm : q ∈ r.set
  · obtain ⟨i, rfl⟩ : ∃ i, r.emb i = q := r.exists_idx_of_mem hm
    rw [Rect.overlay_emb, hw]
  · rw [Rect.overlay_of_not_mem _ _ _ hm]
    exact h q (hq.resolve_right hm)

theorem Agree.mono (h : Agree X G D) (hD : ∀ q, D' q → D q) : Agree X G D' := fun q hq => h q (hD q hq)

theorem Agree.all (h : Agree X G D) (hD : ∀ q, D q) : X = G := funext fun q => h q (hD q)

theorem Agree.none : Agree X G (fun _ => False) := fun _ h => h.elim

end

section Run

variable {nD : Nat} {τ : Topo} {sig : RefSig} {F : FTy → Type} [FloatOps F] {Λ : Labels}
variable {C : Ctx nD τ sig F Λ} {s : Mut F} {Q : Mut F → Prop}

/-! ### Writes, array by array -/

theorem st_dx {r : Rect S2x512x256} {w : r.shape.Idx → Elt F .bf16} {h : 0 < r.shape.numel} {hs : (C.A.dx.access r).Stores Finset.univ}
    {K : PG nD τ sig F Λ} (hK : Ok C { s with dx := r.overlay s.dx w } K Q) : Ok C s (st C.A.dx r w h hs K) Q :=
  Ok.st (s' := { s with dx := r.overlay s.dx w }) (X := s.dx) 9 rfl rfl hK

theorem st_dh {r : Rect S256x512} {w : r.shape.Idx → Elt F .f32} {h : 0 < r.shape.numel} {hs : (C.A.dh.access r).Stores Finset.univ}
    {K : PG nD τ sig F Λ} (hK : Ok C { s with dh := r.overlay s.dh w } K Q) : Ok C s (st C.A.dh r w h hs K) Q :=
  Ok.st (s' := { s with dh := r.overlay s.dh w }) (X := s.dh) 10 rfl rfl hK

theorem st_yf {r : Rect S2x4x256x256} {w : r.shape.Idx → Elt F .f32} {h : 0 < r.shape.numel} {hs : (C.A.yf.access r).Stores Finset.univ}
    {K : PG nD τ sig F Λ} (hK : Ok C { s with yf := r.overlay s.yf w } K Q) : Ok C s (st C.A.yf r w h hs K) Q :=
  Ok.st (s' := { s with yf := r.overlay s.yf w }) (X := s.yf) 11 rfl rfl hK

theorem st_xf {r : Rect S2x4x256x256} {w : r.shape.Idx → Elt F .f32} {h : 0 < r.shape.numel} {hs : (C.A.xf.access r).Stores Finset.univ}
    {K : PG nD τ sig F Λ} (hK : Ok C { s with xf := r.overlay s.xf w } K Q) : Ok C s (st C.A.xf r w h hs K) Q :=
  Ok.st (s' := { s with xf := r.overlay s.xf w }) (X := s.xf) 12 rfl rfl hK

theorem st_hf {r : Rect S4x256x256} {w : r.shape.Idx → Elt F .f32} {h : 0 < r.shape.numel} {hs : (C.A.hf.access r).Stores Finset.univ}
    {K : PG nD τ sig F Λ} (hK : Ok C { s with hf := r.overlay s.hf w } K Q) : Ok C s (st C.A.hf r w h hs K) Q :=
  Ok.st (s' := { s with hf := r.overlay s.hf w }) (X := s.hf) 13 rfl rfl hK

theorem st_zf {r : Rect S12x3x256x256} {w : r.shape.Idx → Elt F .bf16} {h : 0 < r.shape.numel} {hs : (C.A.zf.access r).Stores Finset.univ}
    {K : PG nD τ sig F Λ} (hK : Ok C { s with zf := r.overlay s.zf w } K Q) : Ok C s (st C.A.zf r w h hs K) Q :=
  Ok.st (s' := { s with zf := r.overlay s.zf w }) (X := s.zf) 14 rfl rfl hK

/-! ### The forward spectra -/

theorem jobH_ok {j : ℕ} (hj : j < 4) {K : PG nD τ sig F Λ} {D : S4x256x256.Idx → Prop} (hA : Agree s.hf (gH C.I) D)
    (hK : ∀ X, Agree X (gH C.I) (fun q => D q ∨ (q 0).val = j) → Ok C { s with hf := X } K Q) :
    Ok C s (jobH C.A j hj K) Q := by
  refine Ok.ld 5 rfl (Ok.ld 0 rfl (Ok.ld 1 rfl (st_hf (hK _ ?_))))
  refine (hA.overlay (rHw j hj) _ ?_).mono fun q hq => hq.imp id mem_rHw
  exact fun i => (cast_b3' (jH C.I ⟨j, hj⟩) i).trans (congrArg (gH C.I) (emb_rHw j hj i)).symm

theorem jobY_ok {b j : ℕ} (h : b < 2 ∧ j < 4) {K : PG nD τ sig F Λ} {D : S2x4x256x256.Idx → Prop} (hA : Agree s.yf (gY C.I) D)
    (hK : ∀ X, Agree X (gY C.I) (fun q => D q ∨ ((q 0).val = b ∧ (q 1).val = j)) → Ok C { s with yf := X } K Q) :
    Ok C s (jobY C.A b j h K) Q := by
  refine Ok.ld 4 rfl (Ok.ld 0 rfl (Ok.ld 1 rfl (st_yf (hK _ ?_))))
  refine (hA.overlay (rYw b j h) _ ?_).mono fun q hq => hq.imp id fun hq => mem_rYw hq.1 hq.2
  exact fun i => (cast_b4' (jY C.I ⟨b, h.1⟩ ⟨j, h.2⟩) i).trans (congrArg (gY C.I) (emb_rYw b j h i)).symm

theorem jobX_ok {b j : ℕ} (h : b < 2 ∧ j < 4) {K : PG nD τ sig F Λ} {D : S2x4x256x256.Idx → Prop} (hA : Agree s.xf (gX C.I) D)
    (hK : ∀ X, Agree X (gX C.I) (fun q => D q ∨ ((q 0).val = b ∧ (q 1).val = j)) → Ok C { s with xf := X } K Q) :
    Ok C s (jobX C.A b j h K) Q := by
  refine Ok.ld 3 rfl (Ok.ld 0 rfl (Ok.ld 1 rfl (st_xf (hK _ ?_))))
  refine (hA.overlay (rYw b j h) _ ?_).mono fun q hq => hq.imp id fun hq => mem_rYw hq.1 hq.2
  exact fun i => (cast_b4' (jX C.I ⟨b, h.1⟩ ⟨j, h.2⟩) i).trans (congrArg (gX C.I) (emb_rYw b j h i)).symm

/-- The spectra of the blocks before the `j`-th are in place. -/
structure Fwd (I : In F) (s : Mut F) (j : ℕ) : Prop where
  h : Agree s.hf (gH I) (fun q => (q 0).val < j)
  y : Agree s.yf (gY I) (fun q => (q 1).val < j)
  x : Agree s.xf (gX I) (fun q => (q 1).val < j)

theorem jobs_ok {j : ℕ} (hj : j < 4) {K : PG nD τ sig F Λ} (hA : Fwd C.I s j)
    (hK : ∀ H Y X, Fwd C.I { s with hf := H, yf := Y, xf := X } (j + 1) → Ok C { s with hf := H, yf := Y, xf := X } K Q) :
    Ok C s (jobs C.A j hj K) Q := by
  refine jobH_ok hj hA.h fun H hH => jobY_ok ⟨by decide, hj⟩ hA.y fun Y hY => jobX_ok ⟨by decide, hj⟩ hA.x fun X hX =>
    jobY_ok ⟨by decide, hj⟩ hY fun Y' hY' => jobX_ok ⟨by decide, hj⟩ hX fun X' hX' => hK H Y' X' ⟨?_, ?_, ?_⟩
  · exact hH.mono fun q hq => by omega
  · exact hY'.mono fun q hq => by
      have h0 : (q 0).val < 2 := (q 0).isLt
      omega
  · exact hX'.mono fun q hq => by
      have h0 : (q 0).val < 2 := (q 0).isLt
      omega

/-- All forward spectra. -/
theorem forward_ok {K : PG nD τ sig F Λ} (hK : Ok C { s with hf := gH C.I, yf := gY C.I, xf := gX C.I } K Q) :
    Ok C s (jobs C.A 0 (by decide) <| jobs C.A 1 (by decide) <| jobs C.A 2 (by decide) <| jobs C.A 3 (by decide) K) Q := by
  refine jobs_ok _ ⟨fun q h => absurd h (Nat.not_lt_zero _), fun q h => absurd h (Nat.not_lt_zero _), fun q h => absurd h (Nat.not_lt_zero _)⟩
    fun H Y X h1 => jobs_ok _ h1 fun H Y X h2 => jobs_ok _ h2 fun H Y X h3 => jobs_ok _ h3 fun H Y X h4 => ?_
  obtain rfl : H = gH C.I := h4.h.all fun q => (q 0).isLt
  obtain rfl : Y = gY C.I := h4.y.all fun q => (q 1).isLt
  obtain rfl : X = gX C.I := h4.x.all fun q => (q 1).isLt
  exact hK

/-! ### The spectra of the result blocks -/

/-- A complex tile of a batched spectrum. -/
def tY (X : Vec F S2x4x256x256 .f32) (b j r0 l0 : ℕ) (h : b < 2 ∧ j < 4 ∧ r0 + 16 ≤ 128 ∧ l0 + 128 ≤ 256) : CV F :=
  (shapeCast S16x128 (fun i => X ((rY b j r0 l0 (by omega)).emb i)) sc_t4,
   shapeCast S16x128 (fun i => X ((rY b j (128 + r0) l0 (by omega)).emb i)) sc_t4)

/-- A complex tile of the filter's spectrum. -/
def tH (X : Vec F S4x256x256 .f32) (d r0 l0 : ℕ) (h : d < 4 ∧ r0 + 16 ≤ 128 ∧ l0 + 128 ≤ 256) : CV F :=
  (shapeCast S16x128 (fun i => X ((rH d r0 l0 (by omega)).emb i)) sc_t3,
   shapeCast S16x128 (fun i => X ((rH d (128 + r0) l0 (by omega)).emb i)) sc_t3)

/-- The row of a tile's place. -/
def rowT (r0 : ℕ) (h : r0 + 16 ≤ 128) (i : S16x128.Idx) : Fin 128 := ⟨r0 + (i 0).val, by have : (i 0).val < 16 := (i 0).isLt; omega⟩

/-- The lane of a tile's place. -/
def laneT (l0 : ℕ) (h : l0 + 128 ≤ 256) (i : S16x128.Idx) : Fin 256 := ⟨l0 + (i 1).val, by have : (i 1).val < 128 := (i 1).isLt; omega⟩

theorem at_tY_gY (I : In F) (b j r0 l0 : ℕ) (h : b < 2 ∧ j < 4 ∧ r0 + 16 ≤ 128 ∧ l0 + 128 ≤ 256) (i : S16x128.Idx) :
    atI (tY (gY I) b j r0 l0 h) i = cplx (jY I ⟨b, h.1⟩ ⟨j, h.2.1⟩) (rowT r0 h.2.2.1 i) (laneT l0 h.2.2.2 i) := by
  unfold atI tY cplx
  simp only [cast_t4, emb_rY, gY]
  refine Prod.ext rfl ?_
  refine congrArg (jY I _ _) (congrArg (ix2 · _) (Fin.ext ?_))
  exact Nat.add_assoc _ _ _

theorem at_tY_gX (I : In F) (b j r0 l0 : ℕ) (h : b < 2 ∧ j < 4 ∧ r0 + 16 ≤ 128 ∧ l0 + 128 ≤ 256) (i : S16x128.Idx) :
    atI (tY (gX I) b j r0 l0 h) i = cplx (jX I ⟨b, h.1⟩ ⟨j, h.2.1⟩) (rowT r0 h.2.2.1 i) (laneT l0 h.2.2.2 i) := by
  unfold atI tY cplx
  simp only [cast_t4, emb_rY, gX]
  refine Prod.ext rfl ?_
  refine congrArg (jX I _ _) (congrArg (ix2 · _) (Fin.ext ?_))
  exact Nat.add_assoc _ _ _

theorem at_tH (I : In F) (d r0 l0 : ℕ) (h : d < 4 ∧ r0 + 16 ≤ 128 ∧ l0 + 128 ≤ 256) (i : S16x128.Idx) :
    atI (tH (gH I) d r0 l0 h) i = cplx (jH I ⟨d, h.1⟩) (rowT r0 h.2.1 i) (laneT l0 h.2.2 i) := by
  unfold atI tH cplx
  simp only [cast_t3, emb_rH, gH]
  refine Prod.ext rfl ?_
  refine congrArg (jH I _) (congrArg (ix2 · _) (Fin.ext ?_))
  exact Nat.add_assoc _ _ _

theorem ldYf_ok {b j r0 l0 : ℕ} {h : b < 2 ∧ j < 4 ∧ r0 + 16 ≤ 128 ∧ l0 + 128 ≤ 256} {K : CV F → PG nD τ sig F Λ}
    (hK : Ok C s (K (tY s.yf b j r0 l0 h)) Q) : Ok C s (ldY C.A.yf b j r0 l0 h K) Q := Ok.ld 11 rfl (Ok.ld 11 rfl hK)

theorem ldXf_ok {b j r0 l0 : ℕ} {h : b < 2 ∧ j < 4 ∧ r0 + 16 ≤ 128 ∧ l0 + 128 ≤ 256} {K : CV F → PG nD τ sig F Λ}
    (hK : Ok C s (K (tY s.xf b j r0 l0 h)) Q) : Ok C s (ldY C.A.xf b j r0 l0 h K) Q := Ok.ld 12 rfl (Ok.ld 12 rfl hK)

theorem ldH_ok {d r0 l0 : ℕ} {h : d < 4 ∧ r0 + 16 ≤ 128 ∧ l0 + 128 ≤ 256} {K : CV F → PG nD τ sig F Λ}
    (hK : Ok C s (K (tH s.hf d r0 l0 h)) Q) : Ok C s (ldH C.A d r0 l0 h K) Q := Ok.ld 13 rfl (Ok.ld 13 rfl hK)

variable {hi : FVec F S16x128 .f32 → FVec F S16x128 .f32} {hi1 : F .f32 → F .f32}

theorem limb_apply (v : FVec F S16x128 .f32) (i : S1x1x16x128.Idx) :
    limb v i = FloatOps.truncf .bf16 lt16 (v (ix2 (n0 := 16) (n1 := 128) (i 2) (i 3))) := cast_t4' _ i

theorem rest_apply (hh : ∀ v i, hi v i = hi1 (v i)) (v : FVec F S16x128 .f32) (j : S16x128.Idx) : rest hi v j = rest1 hi1 (v j) :=
  congrArg (FloatOps.subf (v j)) (hh v j)

theorem limb_gZ {k row l0 n : ℕ} (h : k < 12 ∧ row + 16 ≤ 256 ∧ l0 + 128 ≤ 256) (hn : n < 3) (I : In F)
    {v : FVec F S16x128 .f32} {w : FVec F S1x1x16x128 .bf16}
    (hv : ∀ i : S16x128.Idx, v i = zval I k ⟨row + (i 0).val, by have : (i 0).val < 16 := (i 0).isLt; omega⟩ (laneT l0 h.2.2 i))
    (hw : ∀ i : S1x1x16x128.Idx, w i = limbS hi1 n (v (ix2 (n0 := 16) (n1 := 128) (i 2) (i 3)))) (i : S1x1x16x128.Idx) :
    w i = gZ I hi1 ((rZ k n row l0 (by omega)).emb i) := by
  rw [hw, emb_rZ, hv]
  rfl

theorem st_zf_agree {r : Rect S12x3x256x256} {w : r.shape.Idx → Elt F .bf16} {h : 0 < r.shape.numel}
    {hs : (C.A.zf.access r).Stores Finset.univ} {K : PG nD τ sig F Λ} {G : Vec F S12x3x256x256 .bf16} {D : S12x3x256x256.Idx → Prop}
    (hA : Agree s.zf G D) (hw : ∀ i, w i = G (r.emb i))
    (hK : ∀ X, Agree X G (fun q => D q ∨ q ∈ r.set) → Ok C { s with zf := X } K Q) : Ok C s (st C.A.zf r w h hs K) Q :=
  st_zf (hK _ (hA.overlay r w hw))

/-- The limbs of a tile's half. -/
theorem stL_ok (hh : ∀ v i, hi v i = hi1 (v i)) {k row l0 : ℕ} {h : k < 12 ∧ row + 16 ≤ 256 ∧ l0 + 128 ≤ 256} {h2 : 2 ∣ row}
    {v : FVec F S16x128 .f32} {K : PG nD τ sig F Λ} {D : S12x3x256x256.Idx → Prop} (hA : Agree s.zf (gZ C.I hi1) D)
    (hv : ∀ i : S16x128.Idx, v i = zval C.I k ⟨row + (i 0).val, by have : (i 0).val < 16 := (i 0).isLt; omega⟩ (laneT l0 h.2.2 i))
    (hK : ∀ X, Agree X (gZ C.I hi1) (fun q => D q ∨ ((q 0).val = k ∧ (row ≤ (q 2).val ∧ (q 2).val < row + 16)
      ∧ (l0 ≤ (q 3).val ∧ (q 3).val < l0 + 128))) → Ok C { s with zf := X } K Q) :
    Ok C s (stL C.A hi k row l0 h h2 v K) Q := by
  have w0 : ∀ i, limb (hi v) i = gZ C.I hi1 ((rZ k 0 row l0 (by omega)).emb i) :=
    limb_gZ h (by decide) C.I hv fun i => (limb_apply _ i).trans (congrArg _ (hh _ _))
  have w1 : ∀ i, limb (hi (rest hi v)) i = gZ C.I hi1 ((rZ k 1 row l0 (by omega)).emb i) :=
    limb_gZ h (by decide) C.I hv fun i => (limb_apply _ i).trans (congrArg _ ((hh _ _).trans (congrArg hi1 (rest_apply hh _ _))))
  have w2 : ∀ i, limb (rest hi (rest hi v)) i = gZ C.I hi1 ((rZ k 2 row l0 (by omega)).emb i) :=
    limb_gZ h (by decide) C.I hv fun i => (limb_apply _ i).trans (congrArg _ ((rest_apply hh _ _).trans (congrArg (rest1 hi1) (rest_apply hh _ _))))
  refine st_zf_agree hA w0 fun X hX => st_zf_agree (s := { s with zf := X }) hX w1 fun X hX =>
    st_zf_agree (s := { s with zf := X }) hX w2 fun X hX => hK X (hX.mono fun q hq => ?_)
  have h1 : (q 1).val < 3 := (q 1).isLt
  rcases hq with hq | ⟨h0, hr, hl⟩
  · exact .inl (.inl (.inl hq))
  · rcases (show (q 1).val = 0 ∨ (q 1).val = 1 ∨ (q 1).val = 2 by omega) with e | e | e
    · exact .inl (.inl (.inr (mem_rZ h0 e hr hl)))
    · exact .inl (.inr (mem_rZ h0 e hr hl))
    · exact .inr (mem_rZ h0 e hr hl)

theorem stZ_ok (hh : ∀ v i, hi v i = hi1 (v i)) {k r0 l0 : ℕ} {h : k < 12 ∧ r0 + 16 ≤ 128 ∧ l0 + 128 ≤ 256} {h2 : 2 ∣ r0}
    {z : CV F} {K : PG nD τ sig F Λ} {D : S12x3x256x256.Idx → Prop} (hA : Agree s.zf (gZ C.I hi1) D)
    (hz : ∀ i, atI z i = zAll C.I k (rowT r0 h.2.1 i) (laneT l0 h.2.2 i))
    (hK : ∀ X, Agree X (gZ C.I hi1) (fun q => D q ∨ ((q 0).val = k ∧ (r0 ≤ (q 2).val % 128 ∧ (q 2).val % 128 < r0 + 16)
      ∧ (l0 ≤ (q 3).val ∧ (q 3).val < l0 + 128))) → Ok C { s with zf := X } K Q) :
    Ok C s (stZ C.A hi k r0 l0 h h2 z K) Q := by
  refine stL_ok hh hA ?_ fun X hX => stL_ok (s := { s with zf := X }) hh hX ?_ fun X hX => hK X (hX.mono ?_)
  · intro i
    have h0 : (i 0).val < 16 := (i 0).isLt
    rw [zval, dif_pos (by show r0 + (i 0).val < 128; omega)]
    exact congrArg Prod.fst (hz i)
  · intro i
    have h0 : (i 0).val < 16 := (i 0).isLt
    rw [zval, dif_neg (by show ¬ 128 + r0 + (i 0).val < 128; omega)]
    refine (congrArg Prod.snd (hz i)).trans ?_
    have e : rowT r0 h.2.1 i = ⟨128 + r0 + (i 0).val - 128, by omega⟩ :=
      Fin.ext (by show r0 + (i 0).val = 128 + r0 + (i 0).val - 128; omega)
    rw [e]
  · intro q hq
    have h2 : (q 2).val < 256 := (q 2).isLt
    by_cases hD : D q <;> simp only [hD, true_or, false_or] at hq ⊢ <;> omega

/-- One sequence's part of a tile. -/
theorem tileB_ok (hh : ∀ v i, hi v i = hi1 (v i)) {b : ℕ} {hb : b < 2} {pos : Bool} {r0 l0 : ℕ} {h : r0 + 16 ≤ 128 ∧ l0 + 128 ≤ 256}
    {h2 : 2 ∣ r0} {H : ℕ → CV F} {K : (ℕ → CV F) → (ℕ → CV F) → PG nD τ sig F Λ} {D : S12x3x256x256.Idx → Prop}
    (hy : s.yf = gY C.I) (hx : s.xf = gX C.I) (hp : ∀ i, posR (rowT r0 h.1 i) = pos)
    (hH : ∀ i d, atI (H d) i = sH C.I (rowT r0 h.1 i) (laneT l0 h.2 i) d) (hA : Agree s.zf (gZ C.I hi1) D)
    (hK : ∀ X V U, (∀ i n, atI (V n) i = sV C.I ⟨b, hb⟩ (rowT r0 h.1 i) (laneT l0 h.2 i) n)
      → (∀ i n, atI (U n) i = sX C.I ⟨b, hb⟩ (rowT r0 h.1 i) (laneT l0 h.2 i) n)
      → Agree X (gZ C.I hi1) (fun q => D q ∨ ((4 * b ≤ (q 0).val ∧ (q 0).val < 4 * b + 4)
        ∧ (r0 ≤ (q 2).val % 128 ∧ (q 2).val % 128 < r0 + 16) ∧ (l0 ≤ (q 3).val ∧ (q 3).val < l0 + 128)))
      → Ok C { s with zf := X } (K V U) Q) :
    Ok C s (tileB C.A hi b hb pos r0 l0 h h2 H K) Q := by
  have hV : ∀ i n, atI (win pos (tY s.yf b 0 r0 l0 (by omega)) (tY s.yf b 1 r0 l0 (by omega)) (tY s.yf b 2 r0 l0 (by omega))
      (tY s.yf b 3 r0 l0 (by omega)) n) i = sV C.I ⟨b, hb⟩ (rowT r0 h.1 i) (laneT l0 h.2 i) n := by
    intro i n
    rw [at_win, hy, at_tY_gY, at_tY_gY, at_tY_gY, at_tY_gY, sV, hp]
    rfl
  have hU : ∀ i n, atI (sel4 (tY s.xf b 0 r0 l0 (by omega)) (tY s.xf b 1 r0 l0 (by omega)) (tY s.xf b 2 r0 l0 (by omega))
      (tY s.xf b 3 r0 l0 (by omega)) n) i = sX C.I ⟨b, hb⟩ (rowT r0 h.1 i) (laneT l0 h.2 i) n := by
    intro i n
    rw [at_sel4, hx, at_tY_gX, at_tY_gX, at_tY_gX, at_tY_gX]
    rfl
  have hZ : ∀ (n : ℕ), n < 4 → ∀ i, atI (zsum (fun d => cm (H d) (win pos (tY s.yf b 0 r0 l0 (by omega)) (tY s.yf b 1 r0 l0 (by omega))
      (tY s.yf b 2 r0 l0 (by omega)) (tY s.yf b 3 r0 l0 (by omega)) (n + d))) (3 - n)) i
        = zAll C.I (4 * b + n) (rowT r0 h.1 i) (laneT l0 h.2 i) := by
    intro n hn i
    have e : zAll C.I (4 * b + n) (rowT r0 h.1 i) (laneT l0 h.2 i) = zX C.I ⟨b, hb⟩ n (rowT r0 h.1 i) (laneT l0 h.2 i) := by
      rcases (show b = 0 ∨ b = 1 by omega) with rfl | rfl
      · rw [zAll, if_pos (by omega)]
        rw [show 4 * 0 + n = n by omega]; rfl
      · rw [zAll, if_neg (by omega), if_pos (by omega), show 4 * 1 + n - 4 = n by omega]; rfl
    rw [e, at_zsum, zX]
    congr 1
    funext d
    rw [at_cm, hH, hV]
  refine ldYf_ok (ldYf_ok (ldYf_ok (ldYf_ok (ldXf_ok (ldXf_ok (ldXf_ok (ldXf_ok ?_)))))))
  refine stZ_ok hh hA (hZ 0 (by decide)) fun X hX => stZ_ok (s := { s with zf := X }) hh hX (hZ 1 (by decide)) fun X hX =>
    stZ_ok (s := { s with zf := X }) hh hX (hZ 2 (by decide)) fun X hX =>
    stZ_ok (s := { s with zf := X }) hh hX (hZ 3 (by decide)) fun X hX => hK X _ _ hV hU (hX.mono ?_)
  intro q hq
  by_cases hD : D q <;> simp only [hD, true_or, false_or] at hq ⊢ <;> omega

/-- One tile. -/
theorem tile_ok (hh : ∀ v i, hi v i = hi1 (v i)) {pos : Bool} {r0 l0 : ℕ} {h : r0 + 16 ≤ 128 ∧ l0 + 128 ≤ 256}
    {h2 : 2 ∣ r0} {K : PG nD τ sig F Λ} {D : S12x3x256x256.Idx → Prop}
    (hy : s.yf = gY C.I) (hx : s.xf = gX C.I) (hf : s.hf = gH C.I) (hp : ∀ i, posR (rowT r0 h.1 i) = pos)
    (hA : Agree s.zf (gZ C.I hi1) D)
    (hK : ∀ X, Agree X (gZ C.I hi1) (fun q => D q ∨ ((r0 ≤ (q 2).val % 128 ∧ (q 2).val % 128 < r0 + 16)
        ∧ (l0 ≤ (q 3).val ∧ (q 3).val < l0 + 128))) → Ok C { s with zf := X } K Q) :
    Ok C s (tile C.A hi pos r0 l0 h h2 K) Q := by
  have hH : ∀ i d, atI (sel4 (tH s.hf 0 r0 l0 (by omega)) (tH s.hf 1 r0 l0 (by omega)) (tH s.hf 2 r0 l0 (by omega))
      (tH s.hf 3 r0 l0 (by omega)) d) i = sH C.I (rowT r0 h.1 i) (laneT l0 h.2 i) d := by
    intro i d
    rw [at_sel4, hf, at_tH, at_tH, at_tH, at_tH]
    rfl
  refine ldH_ok (ldH_ok (ldH_ok (ldH_ok ?_)))
  refine tileB_ok hh hy hx hp hH hA fun X V0 U0 hV0 hU0 hX =>
    tileB_ok (s := { s with zf := X }) hh hy hx hp hH hX fun X V1 U1 hV1 hU1 hX => ?_
  have hZ : ∀ d, d < 4 → ∀ i, atI (dsum V0 U0 V1 U1 d (3 - d)) i = zAll C.I (8 + d) (rowT r0 h.1 i) (laneT l0 h.2 i) := by
    intro d hd i
    rw [zAll, if_neg (by omega), if_neg (by omega), show 8 + d - 8 = d by omega, dsum, at_zfrom, at_zsum, zH]
    congr 1
    · congr 1
      funext j
      rw [at_cm, hU0, hV0]; rfl
    · funext j
      rw [at_cm, hU1, hV1]; rfl
  refine stZ_ok (s := { s with zf := X }) hh hX (hZ 0 (by decide)) fun X hX => stZ_ok (s := { s with zf := X }) hh hX (hZ 1 (by decide)) fun X hX =>
    stZ_ok (s := { s with zf := X }) hh hX (hZ 2 (by decide)) fun X hX =>
    stZ_ok (s := { s with zf := X }) hh hX (hZ 3 (by decide)) fun X hX => hK X (hX.mono ?_)
  intro q hq
  have h0 : (q 0).val < 12 := (q 0).isLt
  by_cases hD : D q <;> simp only [hD, true_or, false_or] at hq ⊢ <;> omega

/-- The tiles of 16 rows. -/
theorem tiles_ok (hh : ∀ v i, hi v i = hi1 (v i)) {pos : Bool} {r0 : ℕ} {h : r0 + 16 ≤ 128}
    {h2 : 2 ∣ r0} {K : PG nD τ sig F Λ}
    (hy : s.yf = gY C.I) (hx : s.xf = gX C.I) (hf : s.hf = gH C.I) (hp : ∀ i, posR (rowT r0 h i) = pos)
    (hA : Agree s.zf (gZ C.I hi1) (fun q => (q 2).val % 128 < r0))
    (hK : ∀ X, Agree X (gZ C.I hi1) (fun q => (q 2).val % 128 < r0 + 16) → Ok C { s with zf := X } K Q) :
    Ok C s (tiles C.A hi pos r0 h h2 K) Q := by
  refine tile_ok hh hy hx hf hp hA fun X hX => tile_ok (s := { s with zf := X }) hh hy hx hf hp hX fun X hX => hK X (hX.mono ?_)
  intro q hq
  have h3 : (q 3).val < 256 := (q 3).isLt
  beta_reduce at hq ⊢
  omega

theorem posR_true {r0 : ℕ} (h : r0 + 16 ≤ 64) (i : S16x128.Idx) : posR (rowT r0 (by omega) i) = true := by
  have h0 : (i 0).val < 16 := (i 0).isLt
  exact decide_eq_true (by show r0 + (i 0).val < 64; omega)

theorem posR_false {r0 : ℕ} (h : r0 + 16 ≤ 128) (h' : 64 ≤ r0) (i : S16x128.Idx) : posR (rowT r0 h i) = false :=
  decide_eq_false (by show ¬ r0 + (i 0).val < 64; omega)

/-- All tiles. -/
theorem spectra_ok (hh : ∀ v i, hi v i = hi1 (v i)) {K : PG nD τ sig F Λ}
    (hy : s.yf = gY C.I) (hx : s.xf = gX C.I) (hf : s.hf = gH C.I)
    (hK : Ok C { s with zf := gZ C.I hi1 } K Q) :
    Ok C s (tiles C.A hi true 0 (by decide) (by decide) <| tiles C.A hi true 16 (by decide) (by decide) <|
      tiles C.A hi true 32 (by decide) (by decide) <| tiles C.A hi true 48 (by decide) (by decide) <|
      tiles C.A hi false 64 (by decide) (by decide) <| tiles C.A hi false 80 (by decide) (by decide) <|
      tiles C.A hi false 96 (by decide) (by decide) <| tiles C.A hi false 112 (by decide) (by decide) K) Q := by
  refine tiles_ok hh hy hx hf (posR_true (by decide)) (fun q h => absurd h (Nat.not_lt_zero _)) fun X hX =>
    tiles_ok (s := { s with zf := X }) hh hy hx hf (posR_true (by decide)) hX fun X hX =>
    tiles_ok (s := { s with zf := X }) hh hy hx hf (posR_true (by decide)) hX fun X hX =>
    tiles_ok (s := { s with zf := X }) hh hy hx hf (posR_true (by decide)) hX fun X hX =>
    tiles_ok (s := { s with zf := X }) hh hy hx hf (posR_false _ (by decide)) hX fun X hX =>
    tiles_ok (s := { s with zf := X }) hh hy hx hf (posR_false _ (by decide)) hX fun X hX =>
    tiles_ok (s := { s with zf := X }) hh hy hx hf (posR_false _ (by decide)) hX fun X hX =>
    tiles_ok (s := { s with zf := X }) hh hy hx hf (posR_false _ (by decide)) hX fun X hX => ?_
  obtain rfl : X = gZ C.I hi1 := hX.all fun q => Nat.mod_lt _ (by decide)
  exact hK

end Run

end Conv

end
-- ==== Proof.Whole.lean ====
module

public import proofs.«01_k».proof.Proof.Triple

@[expose] public section

/-! The rest of the body, run: the inverse transforms, the scaling and the clearing of rows. -/

noncomputable section

namespace Conv

open Idealize.ShloMosaic Idealize.ShloMosaic.TcCoe Idealize.ShloMosaic.ValueIdx
open Idealize.SL.Sem

section Run

variable {nD : Nat} {τ : Topo} {sig : RefSig} {F : FTy → Type} [FloatOps F] {Λ : Labels}
variable {C : Ctx nD τ sig F Λ} {s : Mut F} {Q : Mut F → Prop}
variable {hi1 : F .f32 → F .f32}

/-- One block's inverse transform. -/
theorem inv_ok {k : ℕ} {h : k < 12} {K : FVec F S128x256 .f32 → PG nD τ sig F Λ} (hz : s.zf = gZ C.I hi1)
    (hK : Ok C s (K (invV C.I hi1 ⟨k, h⟩)) Q) : Ok C s (inv C.A k h K) Q := by
  have hT : ∀ {n m : ℕ} (h : k < 12 ∧ n < 3 ∧ m < 3) {K : FVec F S128x256 .f32 → PG nD τ sig F Λ},
      Ok C s (K (invP C.I hi1 ⟨k, h.1⟩ ⟨n, h.2.1⟩ ⟨m, h.2.2⟩)) Q → Ok C s (ldT C.A k n m h K) Q := by
    intro n m h K hK
    refine Ok.ld 2 rfl (Ok.ld 14 rfl ?_)
    rw [hz]
    exact hK
  exact hT _ (hT _ (hT _ (hT _ (hT _ (hT _ hK)))))

/-- One block of the input gradient. -/
theorem outX_ok {b i : ℕ} {h : b < 2 ∧ i < 4} {K : PG nD τ sig F Λ} {D : S2x512x256.Idx → Prop} (hz : s.zf = gZ C.I hi1)
    (hA : Agree s.dx (dx0 C.I hi1) D)
    (hK : ∀ X, Agree X (dx0 C.I hi1) (fun q => D q ∨ ((q 0).val = b ∧ (128 * i ≤ (q 1).val ∧ (q 1).val < 128 * i + 128)))
      → Ok C { s with dx := X } K Q) : Ok C s (outX C.A (scX C.I) b i h K) Q := by
  have hw : ∀ j, shapeCast S1x128x256 (outXV C.I hi1 ⟨4 * b + i, by omega⟩) sc_a' j
      = dx0 C.I hi1 ((rX b (128 * i) (by omega)).emb j) := by
    intro j
    have hj : (j 1).val < 128 := (j 1).isLt
    refine (cast_a' _ j).trans (.trans ?_ (congrArg (dx0 C.I hi1) (emb_rX b (128 * i) (by omega) j)).symm)
    refine congr (congrArg (outXV C.I hi1) (Fin.ext ?_)) (congrArg (ix2 · _) (Fin.ext ?_))
    · show 4 * b + i = 4 * b + (128 * i + (j 1).val) / 128
      omega
    · show (j 1).val = (128 * i + (j 1).val) % 128
      omega
  exact inv_ok hz (st_dx (hK _ ((hA.overlay (rX b (128 * i) (by omega)) _ hw).mono fun q hq => hq.imp id fun hq => mem_rX hq.1 hq.2)))

/-- One block of the filter gradient. -/
theorem outH_ok {d : ℕ} {h : d < 4} {K : PG nD τ sig F Λ} {D : S256x512.Idx → Prop} (hz : s.zf = gZ C.I hi1)
    (hA : Agree s.dh (dhF C.I hi1) D)
    (hK : ∀ X, Agree X (dhF C.I hi1) (fun q => D q ∨ (128 * d ≤ (q 1).val ∧ (q 1).val < 128 * d + 128))
      → Ok C { s with dh := X } K Q) : Ok C s (outH C.A (scH C.I) d h K) Q := by
  have hw : ∀ j, outHV C.I hi1 ⟨8 + d, by omega⟩ j = dhF C.I hi1 ((rC (128 * d) (by omega)).emb j) := by
    intro j
    have hj : (j 1).val < 128 := (j 1).isLt
    refine .trans ?_ (congrArg (dhF C.I hi1) (emb_rC (128 * d) (by omega) j)).symm
    refine congr (congrArg (outHV C.I hi1) (Fin.ext ?_)) (.trans (eq_ix2 j) (congrArg (ix2 (j 0)) (Fin.ext ?_)))
    · show 8 + d = 8 + (128 * d + (j 1).val) / 128
      omega
    · show (j 1).val = (128 * d + (j 1).val) % 128
      omega
  exact inv_ok hz (st_dh (hK _ ((hA.overlay (rC (128 * d) (by omega)) _ hw).mono fun q hq => hq.imp id fun hq => mem_rC hq)))

/-- All result blocks. -/
theorem results_ok {K : PG nD τ sig F Λ} (hz : s.zf = gZ C.I hi1) (hK : Ok C { s with dx := dx0 C.I hi1, dh := dhF C.I hi1 } K Q) :
    Ok C s (results C.A (scX C.I) (scH C.I) K) Q := by
  refine outX_ok hz Agree.none fun X hX => outX_ok (s := { s with dx := X }) hz hX fun X hX =>
    outX_ok (s := { s with dx := X }) hz hX fun X hX => outX_ok (s := { s with dx := X }) hz hX fun X hX =>
    outX_ok (s := { s with dx := X }) hz hX fun X hX => outX_ok (s := { s with dx := X }) hz hX fun X hX =>
    outX_ok (s := { s with dx := X }) hz hX fun X hX => outX_ok (s := { s with dx := X }) hz hX fun X hX =>
    outH_ok (s := { s with dx := X }) hz Agree.none fun Y hY => outH_ok (s := { s with dx := X, dh := Y }) hz hY fun Y hY =>
    outH_ok (s := { s with dx := X, dh := Y }) hz hY fun Y hY => outH_ok (s := { s with dx := X, dh := Y }) hz hY fun Y hY => ?_
  obtain rfl : X = dx0 C.I hi1 := hX.all fun q => by
    have h0 : (q 0).val < 2 := (q 0).isLt
    have h1 : (q 1).val < 512 := (q 1).isLt
    simp only [false_or]
    omega
  obtain rfl : Y = dhF C.I hi1 := hY.all fun q => by
    have h1 : (q 1).val < 512 := (q 1).isLt
    simp only [false_or]
    omega
  exact hK

/-- The sequences before the `b`-th are finished, the others are not. -/
structure Part (I : In F) (hi1 : F .f32 → F .f32) (X : Vec F S2x512x256 .bf16) (b : ℕ) : Prop where
  done : Agree X (dxF I hi1) (fun q => (q 0).val < b)
  todo : Agree X (dx0 I hi1) (fun q => b ≤ (q 0).val)

theorem Part.skip {I : In F} {X : Vec F S2x512x256 .bf16} {b : Fin 2} (h : Part I hi1 X b.val) (hc : ¬ clr I b) :
    Part I hi1 X (b.val + 1) where
  done := fun q hq => by
    by_cases hb : (q 0).val = b.val
    · have e : q 0 = b := Fin.ext hb
      rw [h.todo q hb.ge, dxF, e, if_neg hc]
    · exact h.done q (by omega)
  todo := h.todo.mono fun q hq => by omega

theorem Part.clear {I : In F} {X : Vec F S2x512x256 .bf16} {b : Fin 2} (h : Part I hi1 X b.val) (hc : clr I b) :
    Part I hi1 ((rXw b.val b.isLt).overlay X
      (clearV (fun i => I.y ((rXw b.val b.isLt).emb i)) (fun i => X ((rXw b.val b.isLt).emb i)))) (b.val + 1) where
  done := fun q hq => by
    by_cases hb : (q 0).val = b.val
    · have e : q 0 = b := Fin.ext hb
      have hcur : (fun i => X ((rXw b.val b.isLt).emb i)) = fun i => dx0 I hi1 ((rXw b.val b.isLt).emb i) := by
        funext i
        exact h.todo _ (le_of_eq (congrArg (fun q : S2x512x256.Idx => (q 0).val) (emb_rXw b.val b.isLt i)).symm)
      have hq' : (rXw b.val b.isLt).emb (ix3 (n0 := 1) (n1 := 512) (n2 := 256) 0 (q 1) (q 2)) = q :=
        (emb_rXw _ _ _).trans ((congrArg (ix3 · _ _) e.symm).trans (eq_ix3 q).symm)
      refine .trans ?_ (.trans (congrArg (fun X => clearV (fun i => I.y ((rXw b.val b.isLt).emb i)) X (ix3 0 (q 1) (q 2))) hcur) ?_)
      · conv_lhs => rw [← hq']
        exact Rect.overlay_emb _ _ _ _
      · rw [dxF, e, if_pos hc]
        rfl
    · exact (Rect.overlay_of_not_mem _ _ _ (fun hm => hb (mem_rXw.mp hm))).trans (h.done q (by omega))
  todo := fun q hq => by
    have hb : ¬ (q 0).val = b.val := by omega
    exact (Rect.overlay_of_not_mem _ _ _ (fun hm => hb (mem_rXw.mp hm))).trans (h.todo q (by omega))

theorem clear_ok {b : ℕ} {hb : b < 2} {K : PG nD τ sig F Λ} (h : Part C.I hi1 s.dx b) (hc : clr C.I ⟨b, hb⟩)
    (hK : ∀ X, Part C.I hi1 X (b + 1) → Ok C { s with dx := X } K Q) : Ok C s (clear C.A b hb K) Q :=
  Ok.ld 4 rfl (Ok.ld 9 rfl (st_dx (hK _ (Part.clear (b := ⟨b, hb⟩) h hc))))

theorem Ok.ite_bind {c : Prop} [Decidable c] {α : Type} {p q : Prog (TpuEff nD τ sig (Elt F) Λ .tc) α} {f : α → PG nD τ sig F Λ}
    (hp : c → Ok C s (p.bind f) Q) (hq : ¬ c → Ok C s (q.bind f) Q) : Ok C s ((if c then p else q).bind f) Q := by
  by_cases hc : c
  · rw [if_pos hc]; exact hp hc
  · rw [if_neg hc]; exact hq hc

theorem Ok.ite {c : Prop} [Decidable c] {p q : PG nD τ sig F Λ}
    (hp : c → Ok C s p Q) (hq : ¬ c → Ok C s q Q) : Ok C s (if c then p else q) Q := by
  by_cases hc : c
  · rw [if_pos hc]; exact hp hc
  · rw [if_neg hc]; exact hq hc

theorem finish1_ok {X : Vec F S2x512x256 .bf16} (hX : Part C.I hi1 X 1) (hK : Q { s with dx := dxF C.I hi1 }) :
    Ok C { s with dx := X } (finish1 C.A) Q := by
  have hend : ∀ X, Part C.I hi1 X 2 → Ok C { s with dx := X } (.ret ⟨⟩) Q := by
    intro X hX
    obtain rfl : X = dxF C.I hi1 := hX.done.all fun q => (q 0).isLt
    exact Ok.ret hK
  exact Ok.ld 4 rfl (Ok.ite (fun hc => clear_ok (s := { s with dx := X }) hX hc fun X hX => hend X hX)
    fun hc => hend X (Part.skip (b := 1) hX hc))

theorem part_zero {I : In F} {X : Vec F S2x512x256 .bf16} (h : X = dx0 I hi1) : Part I hi1 X 0 :=
  ⟨fun q h => absurd h (Nat.not_lt_zero _), fun q _ => by rw [h]⟩

/-- The last pass. -/
theorem finish_ok (hx : s.dx = dx0 C.I hi1) (hK : Q { s with dx := dxF C.I hi1 }) : Ok C s (finish C.A) Q :=
  Ok.ld 4 rfl (Ok.ite (fun hc => clear_ok (s := s) (part_zero hx) hc fun X hX => finish1_ok hX hK)
    fun hc => finish1_ok (s := s) (X := s.dx) (Part.skip (b := 0) (part_zero hx) hc) hK)

/-- The last pass, in its other form. -/
theorem finishJ_ok (hx : s.dx = dx0 C.I hi1) (hK : Q { s with dx := dxF C.I hi1 }) : Ok C s (finishJ C.A) Q :=
  Ok.ld 4 rfl (Ok.ite_bind (fun hc => clear_ok (s := s) (part_zero hx) hc fun X hX => finish1_ok hX hK)
    fun hc => finish1_ok (s := s) (X := s.dx) (Part.skip (b := 0) (part_zero hx) hc) hK)

variable {hi : FVec F S16x128 .f32 → FVec F S16x128 .f32}

/-- The body leaves both gradients in place. -/
theorem body_ok (hh : ∀ v i, hi v i = hi1 (v i)) {fin : PG nD τ sig F Λ}
    (hf : ∀ (s : Mut F) (Q : Mut F → Prop), s.dx = dx0 C.I hi1 → Q { s with dx := dxF C.I hi1 } → Ok C s fin Q) :
    Ok C s (body C.A hi fin) (fun s' => s'.dx = dxF C.I hi1 ∧ s'.dh = dhF C.I hi1) :=
  forward_ok (spectra_ok hh rfl rfl rfl (Ok.ld 8 rfl (Ok.ld 7 rfl (Ok.ld 7 rfl (Ok.ld 6 rfl
    (results_ok rfl (hf _ _ rfl ⟨rfl, rfl⟩)))))))

end Run

end Conv

end
-- ==== Proof.FrameK.lean ====
module

public import proofs.«01_k».proof.Proof.Gen.Kernel
public import proofs.«01_k».proof.Proof.Gen.Kernel.Frame
public import proofs.«01_k».proof.Proof.BodyK
public import proofs.«01_k».proof.Proof.Whole
public import Idealize.ShloMosaic.Lib.Claim

@[expose] public section

/-! The run of the printed program: what every array holds when it ends. -/

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ### The arrays the body is called with -/

abbrev ms0 (t : Fin cfg0.N) : Memref sig .tc .vmem S256x256 .bf16 := win0_0.stage (cfg0.slots t 0)
abbrev ms1 (t : Fin cfg0.N) : Memref sig .tc .vmem S256x128 .bf16 := win0_1.stage (cfg0.slots t 1)
abbrev ms2 (t : Fin cfg0.N) : Memref sig .tc .vmem S3x128x256 .bf16 := win0_2.stage (cfg0.slots t 2)
abbrev ms3 (t : Fin cfg0.N) : Memref sig .tc .vmem S2x512x256 .fp8e4m3 := win0_3.stage (cfg0.slots t 3)
abbrev ms4 (t : Fin cfg0.N) : Memref sig .tc .vmem S2x512x256 .fp8e5m2 := win0_4.stage (cfg0.slots t 4)
abbrev ms5 (t : Fin cfg0.N) : Memref sig .tc .vmem S256x512 .fp8e4m3 := win0_5.stage (cfg0.slots t 5)
abbrev ms6 (t : Fin cfg0.N) : Memref sig .tc .vmem S1x256 .f32 := win0_6.stage (cfg0.slots t 6)
abbrev ms7 (t : Fin cfg0.N) : Memref sig .tc .vmem S1x256 .f32 := win0_7.stage (cfg0.slots t 7)
abbrev ms8 (t : Fin cfg0.N) : Memref sig .tc .vmem S1x256 .f32 := win0_8.stage (cfg0.slots t 8)
abbrev ms9 (t : Fin cfg0.N) : Memref sig .tc .vmem S2x512x256 .bf16 := win0_9.stage (cfg0.slots t 9)
abbrev ms10 (t : Fin cfg0.N) : Memref sig .tc .vmem S256x512 .f32 := win0_10.stage (cfg0.slots t 10)

abbrev sc0 : Memref sig .tc .vmem S2x4x256x256 .f32 := Memref.whole cc0_scratch0
abbrev sc1 : Memref sig .tc .vmem S2x4x256x256 .f32 := Memref.whole cc0_scratch1
abbrev sc2 : Memref sig .tc .vmem S4x256x256 .f32 := Memref.whole cc0_scratch2
abbrev sc3 : Memref sig .tc .vmem S12x3x256x256 .bf16 := Memref.whole cc0_scratch3

/-- The scratch arrays, owned at some contents, are what the invariant holds. -/
theorem inv_eq (c : Dev nD) : (Pipeline.ΦA spec0 c : sProp 𝕄)
      = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The arrays at a point. -/
abbrev args (t : Fin cfg0.N) : Conv.Args sig :=
  ⟨ms0 t, hstage0_0 ((cfg0.slots t 0).cast nbuf0_0), ms1 t, hstage0_1 ((cfg0.slots t 1).cast nbuf0_1), ms2 t, hstage0_2 ((cfg0.slots t 2).cast nbuf0_2), ms3 t, hstage0_3 ((cfg0.slots t 3).cast nbuf0_3), ms4 t, hstage0_4 ((cfg0.slots t 4).cast nbuf0_4), ms5 t, hstage0_5 ((cfg0.slots t 5).cast nbuf0_5), ms6 t, hstage0_6 ((cfg0.slots t 6).cast nbuf0_6), ms7 t, hstage0_7 ((cfg0.slots t 7).cast nbuf0_7), ms8 t, hstage0_8 ((cfg0.slots t 8).cast nbuf0_8), ms9 t, hstage0_9 ((cfg0.slots t 9).cast nbuf0_9), ms10 t, hstage0_10 ((cfg0.slots t 10).cast nbuf0_10),
    sc0, Memref.isWhole_whole _, sc1, Memref.isWhole_whole _, sc2, Memref.isWhole_whole _, sc3, Memref.isWhole_whole _⟩

/-- The inputs' blocks at a point. -/
def ins (c : Dev nD) (t : Fin cfg0.N) : Conv.In F :=
  ⟨iblk m c 0 t, iblk m c 1 t, iblk m c 2 t, iblk m c 3 t, iblk m c 4 t, iblk m c 5 t, iblk m c 6 t, iblk m c 7 t, iblk m c 8 t⟩

/-- The leading limb of a number. -/
def hi1 : F .f32 → F .f32 := fun v => hi (fun _ => v) (fun a => ⟨0, by fin_cases a <;> decide⟩)

theorem hi_eq (v : FVec F Conv.S16x128 .f32) (i : Conv.S16x128.Idx) : hi v i = hi1 (v i) := rfl

/-! ### The proof data -/

/-- The arrays as the region finds them; after the body each input's block in place and the results' blocks computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Conv.dxF (ins m c t) hi1
    | ⟨10, _⟩ => Conv.dhF (ins m c t) hi1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = Conv.dxF (ins m c t) hi1 := by dsimp only [dats]
theorem after10 (c : Dev nD) (t : Fin cfg0.N) : (dats m 0 c).after 10 t = Conv.dhF (ins m c t) hi1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ### The body at a point -/

/-- The run of the body is about these. -/
abbrev ctx (c : Dev nD) (t : Fin cfg0.N) : Conv.Ctx nD τ sig F Λ₀ where
  defs := defs₀ (F := F)
  𝒱 := Variants.none
  bd := none
  c := c
  A := args t
  I := ins m c t

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

theorem body_runs (c : Dev nD) (t : Fin cfg0.N) (s : Conv.Mut F) :
    Conv.Ok (ctx m c t) s (bodyAt0 t) (fun s' => s'.dx = Conv.dxF (ins m c t) hi1 ∧ s'.dh = Conv.dhF (ins m c t) hi1) := by
  have h : bodyAt0 (F := F) t = Conv.body (args t) hi (Conv.finish (args t)) := body_eq _ _ _ _ _ _ _ _ _ _ _ _ _ _ _ _ _ _ _ _ _ _ _ _ _ _ _ _ _ _ _
  rw [h]
  exact Conv.body_ok (C := ctx m c t) hi_eq fun s Q hs hQ => Conv.finish_ok (C := ctx m c t) hs hQ

set_option maxHeartbeats 1200000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, inv_eq]
  iintro ⟨⟨⟨⟨%z0, S0⟩, ⟨%z1, S1⟩, ⟨%z2, S2⟩, ⟨%z3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_runs m c t ⟨(dats m 0 c).before 9 t d9, (dats m 0 c).before 10 t d10, z0, z1, z2, z3⟩).use Set.univ
    iprop((∃ r, prngReg c r) ∗ (dats m 0 c).owesAt () t.castSucc) _ ?post)
  case post =>
    rintro s' ⟨hx, hh⟩
    unfold Conv.cells
    simp only [Conv.sepL]
    rw [← hx, ← hh]
    iintro ⟨⟨Hg, Ho⟩, H0, H1, H2, H3, H4, H5, H6, H7, H8, H9, H10, S0, S1, S2, S3, -⟩
    isplitl [S0 S1 S2 S3 Hg]
    · isplitl [S0 S1 S2 S3]
      · isplitl [S0]
        · iexists _; iexact S0
        isplitl [S1]
        · iexists _; iexact S1
        isplitl [S2]
        · iexists _; iexact S2
        iexists _; iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hg Ho]
  · isplitl [Hg]
    · iexact Hg
    iexact Ho
  unfold Conv.cells
  simp only [Conv.sepL]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What every array holds at the end. -/
theorem run : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.Kernel.Run

end
-- ==== Proof.BodyI.lean ====
module

public import proofs.«01_k».proof.KernelIdeal
public import proofs.«01_k».proof.Proof.Shape

@[expose] public section

/-! The idealized body is an instance of the program of `Shape`. -/

set_option maxRecDepth 65536
set_option maxHeartbeats 0
noncomputable section
namespace Cert.KernelIdeal
open Idealize.ShloMosaic Idealize.SL.Sem
variable {F : FTy → Type} [FloatOps F] [Facts]

/-- The leading limb of a tile. -/
def hi (v : FVec F Conv.S16x128 .f32) : FVec F Conv.S16x128 .f32 :=
  extf .f32 (truncf .bf16 v Conv.lt16 : FVec F Conv.S16x128 .bf16) Conv.lt16

/-- The body, read. -/
theorem body_eq (i : grid0.Coords) (arg1 : Memref sig .tc .vmem S256x256 .bf16) (harg1 : arg1.IsWhole) (arg2 : Memref sig .tc .vmem S256x128 .bf16) (harg2 : arg2.IsWhole) (arg3 : Memref sig .tc .vmem S3x128x256 .bf16) (harg3 : arg3.IsWhole) (arg4 : Memref sig .tc .vmem S2x512x256 .fp8e4m3) (harg4 : arg4.IsWhole) (arg5 : Memref sig .tc .vmem S2x512x256 .fp8e5m2) (harg5 : arg5.IsWhole) (arg6 : Memref sig .tc .vmem S256x512 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S2x512x256 .bf16) (harg10 : arg10.IsWhole) (arg11 : Memref sig .tc .vmem S256x512 .f32) (harg11 : arg11.IsWhole) (arg12 : Memref sig .tc .vmem S2x4x256x256 .f32) (harg12 : arg12.IsWhole) (arg13 : Memref sig .tc .vmem S2x4x256x256 .f32) (harg13 : arg13.IsWhole) (arg14 : Memref sig .tc .vmem S4x256x256 .f32) (harg14 : arg14.IsWhole) (arg15 : Memref sig .tc .vmem S12x3x256x256 .bf16) (harg15 : arg15.IsWhole) :
    cc0_hyena_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = Conv.body ⟨arg1, harg1, arg2, harg2, arg3, harg3, arg4, harg4, arg5, harg5, arg6, harg6, arg7, harg7, arg8, harg8, arg9, harg9, arg10, harg10, arg11, harg11, arg12, harg12, arg13, harg13, arg14, harg14, arg15, harg15⟩ hi (Conv.finishJ ⟨arg1, harg1, arg2, harg2, arg3, harg3, arg4, harg4, arg5, harg5, arg6, harg6, arg7, harg7, arg8, harg8, arg9, harg9, arg10, harg10, arg11, harg11, arg12, harg12, arg13, harg13, arg14, harg14, arg15, harg15⟩) := by rfl

end Cert.KernelIdeal
-- ==== Proof.FrameI.lean ====
module

public import proofs.«01_k».proof.Proof.Gen.KernelIdeal
public import proofs.«01_k».proof.Proof.Gen.KernelIdeal.Frame
public import proofs.«01_k».proof.Proof.BodyI
public import proofs.«01_k».proof.Proof.Whole
public import Idealize.ShloMosaic.Lib.Claim

@[expose] public section

/-! The run of the idealized program: what every array holds when it ends. -/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arrays the body is called with -/

abbrev ms0 (t : Fin cfg0.N) : Memref sig .tc .vmem S256x256 .bf16 := win0_0.stage (cfg0.slots t 0)
abbrev ms1 (t : Fin cfg0.N) : Memref sig .tc .vmem S256x128 .bf16 := win0_1.stage (cfg0.slots t 1)
abbrev ms2 (t : Fin cfg0.N) : Memref sig .tc .vmem S3x128x256 .bf16 := win0_2.stage (cfg0.slots t 2)
abbrev ms3 (t : Fin cfg0.N) : Memref sig .tc .vmem S2x512x256 .fp8e4m3 := win0_3.stage (cfg0.slots t 3)
abbrev ms4 (t : Fin cfg0.N) : Memref sig .tc .vmem S2x512x256 .fp8e5m2 := win0_4.stage (cfg0.slots t 4)
abbrev ms5 (t : Fin cfg0.N) : Memref sig .tc .vmem S256x512 .fp8e4m3 := win0_5.stage (cfg0.slots t 5)
abbrev ms6 (t : Fin cfg0.N) : Memref sig .tc .vmem S1x256 .f32 := win0_6.stage (cfg0.slots t 6)
abbrev ms7 (t : Fin cfg0.N) : Memref sig .tc .vmem S1x256 .f32 := win0_7.stage (cfg0.slots t 7)
abbrev ms8 (t : Fin cfg0.N) : Memref sig .tc .vmem S1x256 .f32 := win0_8.stage (cfg0.slots t 8)
abbrev ms9 (t : Fin cfg0.N) : Memref sig .tc .vmem S2x512x256 .bf16 := win0_9.stage (cfg0.slots t 9)
abbrev ms10 (t : Fin cfg0.N) : Memref sig .tc .vmem S256x512 .f32 := win0_10.stage (cfg0.slots t 10)

abbrev sc0 : Memref sig .tc .vmem S2x4x256x256 .f32 := Memref.whole cc0_scratch0
abbrev sc1 : Memref sig .tc .vmem S2x4x256x256 .f32 := Memref.whole cc0_scratch1
abbrev sc2 : Memref sig .tc .vmem S4x256x256 .f32 := Memref.whole cc0_scratch2
abbrev sc3 : Memref sig .tc .vmem S12x3x256x256 .bf16 := Memref.whole cc0_scratch3

/-- The scratch arrays, owned at some contents, are what the invariant holds. -/
theorem inv_eq (c : Dev nD) : (Pipeline.ΦA spec0 c : sProp 𝕄)
      = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The arrays at a point. -/
abbrev args (t : Fin cfg0.N) : Conv.Args sig :=
  ⟨ms0 t, hstage0_0 ((cfg0.slots t 0).cast nbuf0_0), ms1 t, hstage0_1 ((cfg0.slots t 1).cast nbuf0_1), ms2 t, hstage0_2 ((cfg0.slots t 2).cast nbuf0_2), ms3 t, hstage0_3 ((cfg0.slots t 3).cast nbuf0_3), ms4 t, hstage0_4 ((cfg0.slots t 4).cast nbuf0_4), ms5 t, hstage0_5 ((cfg0.slots t 5).cast nbuf0_5), ms6 t, hstage0_6 ((cfg0.slots t 6).cast nbuf0_6), ms7 t, hstage0_7 ((cfg0.slots t 7).cast nbuf0_7), ms8 t, hstage0_8 ((cfg0.slots t 8).cast nbuf0_8), ms9 t, hstage0_9 ((cfg0.slots t 9).cast nbuf0_9), ms10 t, hstage0_10 ((cfg0.slots t 10).cast nbuf0_10),
    sc0, Memref.isWhole_whole _, sc1, Memref.isWhole_whole _, sc2, Memref.isWhole_whole _, sc3, Memref.isWhole_whole _⟩

/-- The inputs' blocks at a point. -/
def ins (c : Dev nD) (t : Fin cfg0.N) : Conv.In F :=
  ⟨iblk m c 0 t, iblk m c 1 t, iblk m c 2 t, iblk m c 3 t, iblk m c 4 t, iblk m c 5 t, iblk m c 6 t, iblk m c 7 t, iblk m c 8 t⟩

/-- The leading limb of a number. -/
def hi1 : F .f32 → F .f32 := fun v => FloatOps.extf .f32 Conv.lt16 (FloatOps.truncf .bf16 Conv.lt16 v)

theorem hi_eq (v : FVec F Conv.S16x128 .f32) (i : Conv.S16x128.Idx) : hi v i = hi1 (v i) := rfl

/-! ### The proof data -/

/-- The arrays as the region finds them; after the body each input's block in place and the results' blocks computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Conv.dxF (ins m c t) hi1
    | ⟨10, _⟩ => Conv.dhF (ins m c t) hi1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = Conv.dxF (ins m c t) hi1 := by dsimp only [dats]
theorem after10 (c : Dev nD) (t : Fin cfg0.N) : (dats m 0 c).after 10 t = Conv.dhF (ins m c t) hi1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ### The body at a point -/

/-- The run of the body is about these. -/
abbrev ctx (c : Dev nD) (t : Fin cfg0.N) : Conv.Ctx nD τ sig F Λ₀ where
  defs := defs₀ (F := F)
  𝒱 := Variants.none
  bd := none
  c := c
  A := args t
  I := ins m c t

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

theorem body_runs (c : Dev nD) (t : Fin cfg0.N) (s : Conv.Mut F) :
    Conv.Ok (ctx m c t) s (bodyAt0 t) (fun s' => s'.dx = Conv.dxF (ins m c t) hi1 ∧ s'.dh = Conv.dhF (ins m c t) hi1) := by
  have h : bodyAt0 (F := F) t = Conv.body (args t) hi (Conv.finishJ (args t)) := body_eq _ _ _ _ _ _ _ _ _ _ _ _ _ _ _ _ _ _ _ _ _ _ _ _ _ _ _ _ _ _ _
  rw [h]
  exact Conv.body_ok (C := ctx m c t) hi_eq fun s Q hs hQ => Conv.finishJ_ok (C := ctx m c t) hs hQ

set_option maxHeartbeats 1200000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, inv_eq]
  iintro ⟨⟨⟨⟨%z0, S0⟩, ⟨%z1, S1⟩, ⟨%z2, S2⟩, ⟨%z3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_runs m c t ⟨(dats m 0 c).before 9 t d9, (dats m 0 c).before 10 t d10, z0, z1, z2, z3⟩).use Set.univ
    iprop((∃ r, prngReg c r) ∗ (dats m 0 c).owesAt () t.castSucc) _ ?post)
  case post =>
    rintro s' ⟨hx, hh⟩
    unfold Conv.cells
    simp only [Conv.sepL]
    rw [← hx, ← hh]
    iintro ⟨⟨Hg, Ho⟩, H0, H1, H2, H3, H4, H5, H6, H7, H8, H9, H10, S0, S1, S2, S3, -⟩
    isplitl [S0 S1 S2 S3 Hg]
    · isplitl [S0 S1 S2 S3]
      · isplitl [S0]
        · iexists _; iexact S0
        isplitl [S1]
        · iexists _; iexact S1
        isplitl [S2]
        · iexists _; iexact S2
        iexists _; iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hg Ho]
  · isplitl [Hg]
    · iexact Hg
    iexact Ho
  unfold Conv.cells
  simp only [Conv.sepL]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What every array holds at the end. -/
theorem run : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.KernelIdeal.Run

end
-- ==== Proof.Trig.lean ====
module

public import Mathlib.Analysis.SpecialFunctions.Trigonometric.Basic

@[expose] public section

/-! The transform at half-odd frequencies, over the reals: block spectra, and the correlation they give. -/

noncomputable section

namespace Conv

open Complex

/-- The frequency number of a row: the even ones first, then the odd ones. -/
def kOf (r : ℕ) : ℕ := if r < 64 then 2 * r else 2 * (r - 64) + 1

/-- The angle of a row. -/
def th (r : ℕ) : ℝ := Real.pi * (2 * kOf r + 1) / 256

theorem sum_kOf (f : ℕ → ℝ) : ∑ r ∈ Finset.range 128, f (kOf r) = ∑ k ∈ Finset.range 128, f k := by
  refine Finset.sum_bij' (fun r _ => kOf r) (fun k _ => if k % 2 = 0 then k / 2 else 64 + k / 2) ?_ ?_ ?_ ?_ ?_
  · intro r h; simp only [Finset.mem_range, kOf] at *; split <;> omega
  · intro r h; simp only [Finset.mem_range] at *; split <;> omega
  · intro r h
    rcases Nat.lt_or_ge r 64 with h1 | h1
    · have e : kOf r = 2 * r := if_pos h1
      simp only [e]; rw [if_pos (by omega)]; omega
    · have e : kOf r = 2 * (r - 64) + 1 := if_neg (by omega)
      have := Finset.mem_range.mp h
      simp only [e]; rw [if_neg (by omega)]; omega
  · intro k h
    have := Finset.mem_range.mp h
    rcases Nat.mod_two_eq_zero_or_one k with h1 | h1
    · simp only [h1, if_true]; exact (if_pos (by omega)).trans (by omega)
    · simp only [h1, one_ne_zero, if_false]; exact (if_neg (by omega)).trans (by omega)
  · intro r h; rfl

/-- The cosines at odd multiples of an angle add up. -/
theorem sum_cos_odd (a : ℝ) (n : ℕ) :
    (∑ k ∈ Finset.range n, Real.cos ((2 * k + 1) * a)) * (2 * Real.sin a) = Real.sin (2 * n * a) := by
  induction n with
  | zero => simp
  | succ n ih =>
    rw [Finset.sum_range_succ, add_mul, ih]
    have h1 : (2 * ((n + 1 : ℕ) : ℝ) * a) = (2 * n + 1) * a + a := by push_cast; ring
    have h2 : (2 * (n : ℝ) * a) = (2 * n + 1) * a - a := by ring
    rw [h1, h2, Real.sin_add, Real.sin_sub]; ring

/-- The rows' waves are orthogonal. -/
theorem sum_cos (n : ℤ) (h1 : -256 < n) (h2 : n < 256) :
    ∑ r ∈ Finset.range 128, Real.cos (th r * n) = if n = 0 then 128 else 0 := by
  have e : ∀ r, Real.cos (th r * n) = (fun k : ℕ => Real.cos ((2 * k + 1) * (Real.pi * n / 256))) (kOf r) := fun r => by
    simp only [th]; congr 1; ring
  simp only [e]
  rw [sum_kOf (fun k : ℕ => Real.cos ((2 * k + 1) * (Real.pi * n / 256)))]
  by_cases h : n = 0
  · subst h; simp
  · rw [if_neg h]
    have s := sum_cos_odd (Real.pi * n / 256) 128
    have z : Real.sin (2 * (128 : ℕ) * (Real.pi * n / 256)) = 0 := by
      have : (2 * (128 : ℕ) * (Real.pi * n / 256) : ℝ) = n * Real.pi := by push_cast; ring
      rw [this]; exact Real.sin_int_mul_pi n
    rw [z] at s
    rcases mul_eq_zero.mp s with s | s
    · exact s
    · exfalso
      have s' : Real.sin (Real.pi * n / 256) = 0 := by linarith
      have p := Real.pi_pos
      have n1 : (-256 : ℝ) < n := by exact_mod_cast h1
      have n2 : (n : ℝ) < 256 := by exact_mod_cast h2
      rw [Real.sin_eq_zero_iff_of_lt_of_lt (by nlinarith) (by nlinarith)] at s'
      have : (n : ℝ) = 0 := by
        have : Real.pi * n = 0 := by linarith
        rcases mul_eq_zero.mp this with q | q
        · linarith
        · exact q
      exact h (by exact_mod_cast this)

/-- One wave. -/
def wv (r : ℕ) (n : ℝ) : ℂ := exp ((th r * n : ℝ) * I)

theorem wv_add (r : ℕ) (a b : ℝ) : wv r (a + b) = wv r a * wv r b := by
  unfold wv; rw [← exp_add]; congr 1; push_cast; ring

theorem wv_re (r : ℕ) (a : ℝ) : (wv r a).re = Real.cos (th r * a) := by unfold wv; rw [exp_ofReal_mul_I_re]

theorem wv_im (r : ℕ) (a : ℝ) : (wv r a).im = Real.sin (th r * a) := by unfold wv; rw [exp_ofReal_mul_I_im]

theorem wv_conj (r : ℕ) (a : ℝ) : (starRingEnd ℂ) (wv r a) = wv r (-a) := by
  apply Complex.ext
  · rw [conj_re, wv_re, wv_re, mul_neg, Real.cos_neg]
  · rw [conj_im, wv_im, wv_im, mul_neg, Real.sin_neg]

/-- The sign of a row. -/
def eps (r : ℕ) : ℝ := if r < 64 then 1 else -1

theorem wv_128 (r : ℕ) : wv r (-128) = -(eps r : ℂ) * I := by
  have hk : th r * (-128) = -(kOf r * Real.pi + Real.pi / 2) := by unfold th; ring
  apply Complex.ext
  · rw [wv_re, hk, Real.cos_neg, Real.cos_add_pi_div_two, Real.sin_nat_mul_pi]; simp
  · rw [wv_im, hk, Real.sin_neg, Real.sin_add_pi_div_two, Real.cos_nat_mul_pi]
    have : ((-1 : ℝ)) ^ kOf r = eps r := by
      unfold kOf eps; split
      · rw [pow_mul]; simp
      · rw [pow_succ, pow_mul]; simp
    rw [this]; simp

/-- The spectrum of block `j` of a sequence. -/
def spec (a : ℕ → ℝ) (j r : ℕ) : ℂ := ∑ u ∈ Finset.range 128, (a (128 * j + u) : ℂ) * wv r (-u)

/-- The spectrum of the window of two blocks. -/
def vspec (a : ℕ → ℝ) (j r : ℕ) : ℂ := spec a j r + wv r (-128) * spec a (j + 1) r

theorem vspec_eq (a : ℕ → ℝ) (j r : ℕ) : vspec a j r = ∑ t ∈ Finset.range 256, (a (128 * j + t) : ℂ) * wv r (-t) := by
  unfold vspec spec
  rw [show (256 : ℕ) = 128 + 128 from rfl, Finset.sum_range_add, Finset.mul_sum]
  congr 1
  refine Finset.sum_congr rfl fun u _ => ?_
  have : (-((128 + u : ℕ) : ℝ)) = -128 + -u := by push_cast; ring
  rw [this, wv_add, show 128 * (j + 1) + u = 128 * j + (128 + u) by ring]; ring

/-- A filter's response, without scales: the correlation of two sequences at an offset. -/
def corr (a y : ℕ → ℝ) (o : ℕ) : ℝ := ∑ s ∈ Finset.range 512, a s * y (o + s)

/-- The inverse transform of a spectrum at a position. -/
def invR (z : ℕ → ℂ) (p : ℕ) : ℝ := ∑ r ∈ Finset.range 128, (1 / 128) * (wv r p * z r).re

theorem invR_add (f g : ℕ → ℂ) (p : ℕ) : invR (fun r => f r + g r) p = invR f p + invR g p := by
  unfold invR; rw [← Finset.sum_add_distrib]; refine Finset.sum_congr rfl fun r _ => ?_; rw [mul_add, add_re]; ring

theorem invR_sum (s : Finset ℕ) (f : ℕ → ℕ → ℂ) (p : ℕ) : invR (fun r => ∑ d ∈ s, f d r) p = ∑ d ∈ s, invR (f d) p := by
  unfold invR; rw [Finset.sum_comm]; refine Finset.sum_congr rfl fun r _ => ?_
  rw [Finset.mul_sum, re_sum, Finset.mul_sum]

theorem inv_pair (a y : ℕ → ℝ) (d j p : ℕ) (hp : p < 128) :
    invR (fun r => (starRingEnd ℂ) (spec a d r) * vspec y j r) p = ∑ u ∈ Finset.range 128, a (128 * d + u) * y (128 * j + p + u) := by
  have e : ∀ r, (1 / 128) * (wv r p * ((starRingEnd ℂ) (spec a d r) * vspec y j r)).re
      = ∑ u ∈ Finset.range 128, ∑ t ∈ Finset.range 256, (a (128 * d + u) * y (128 * j + t) / 128) * Real.cos (th r * ((p + u - t : ℤ) : ℝ)) := by
    intro r
    rw [vspec_eq, spec, map_sum, Finset.sum_mul, Finset.mul_sum, re_sum, Finset.mul_sum]
    refine Finset.sum_congr rfl fun u _ => ?_
    rw [Finset.mul_sum, Finset.mul_sum, re_sum, Finset.mul_sum]
    refine Finset.sum_congr rfl fun t _ => ?_
    rw [map_mul, conj_ofReal, wv_conj, neg_neg]
    have : wv r p * ((a (128 * d + u) : ℂ) * wv r u * ((y (128 * j + t) : ℂ) * wv r (-t)))
        = ((a (128 * d + u) * y (128 * j + t) : ℝ) : ℂ) * wv r ((p + u - t : ℤ) : ℝ) := by
      have : (((p + u - t : ℤ) : ℝ)) = p + u + -t := by push_cast; ring
      rw [this, wv_add, wv_add]; push_cast; ring
    rw [this, re_ofReal_mul, wv_re]; ring
  unfold invR
  simp only [e]
  rw [Finset.sum_comm]
  refine Finset.sum_congr rfl fun u hu => ?_
  rw [Finset.sum_comm]
  have hu' := Finset.mem_range.mp hu
  rw [Finset.sum_eq_single (p + u)]
  · rw [← Finset.mul_sum, sum_cos _ (by push_cast; omega) (by push_cast; omega), if_pos (by push_cast; omega), ← add_assoc]; ring
  · intro t ht hne
    have ht' := Finset.mem_range.mp ht
    rw [← Finset.mul_sum, sum_cos _ (by omega) (by omega), if_neg (by omega), mul_zero]
  · intro h; exact absurd (Finset.mem_range.mpr (by omega)) h

/-- A correlation, block by block. -/
theorem corr_blocks (a y : ℕ → ℝ) (hy : ∀ n, 512 ≤ n → y n = 0) (i p : ℕ) (hi : i < 4) :
    ∑ d ∈ Finset.range (4 - i), ∑ u ∈ Finset.range 128, a (128 * d + u) * y (128 * (i + d) + p + u) = corr a y (128 * i + p) := by
  have hz : ∀ d u, 4 - i ≤ d → a (128 * d + u) * y (128 * (i + d) + p + u) = 0 := fun d u h => by
    rw [hy _ (by omega), mul_zero]
  have h4 : ∑ d ∈ Finset.range (4 - i), ∑ u ∈ Finset.range 128, a (128 * d + u) * y (128 * (i + d) + p + u)
      = ∑ d ∈ Finset.range 4, ∑ u ∈ Finset.range 128, a (128 * d + u) * y (128 * (i + d) + p + u) := by
    refine Finset.sum_subset (fun d h => ?_) fun d _ h => ?_
    · simp only [Finset.mem_range] at *; omega
    · exact Finset.sum_eq_zero fun u _ => hz d u (by simpa using h)
  rw [h4]
  unfold corr
  rw [show (512 : ℕ) = 128 + 128 + 128 + 128 from rfl]
  simp only [Finset.sum_range_add]
  rw [Finset.sum_range_succ, Finset.sum_range_succ, Finset.sum_range_succ, Finset.sum_range_one]
  refine congrArg₂ _ (congrArg₂ _ (congrArg₂ _ ?_ ?_) ?_) ?_ <;>
  · refine Finset.sum_congr rfl fun u _ => ?_
    congr 1 <;> congr 1 <;> ring

/-- The inverse transform of the blocks' products is the correlation. -/
theorem inv_corr (a y : ℕ → ℝ) (hy : ∀ n, 512 ≤ n → y n = 0) (i p : ℕ) (hi : i < 4) (hp : p < 128) :
    invR (fun r => ∑ d ∈ Finset.range (4 - i), (starRingEnd ℂ) (spec a d r) * vspec y (i + d) r) p = corr a y (128 * i + p) := by
  rw [invR_sum, ← corr_blocks a y hy i p hi]
  exact Finset.sum_congr rfl fun d _ => inv_pair a y d (i + d) p hp

end Conv

end
-- ==== Proof.NumA.lean ====
module

public import proofs.«01_k».proof.Proof.Places
public import proofs.«01_k».proof.Proof.Trig
public import Idealize.ShloMosaic.Lib.Pointwise
public import Idealize.ShloMosaic.Lib.Pointwise.IndexBridge

@[expose] public section

set_option maxRecDepth 16384

/-! The body's matrix products over the reals, element by element. -/

noncomputable section

namespace Conv

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fwdV_apply {φ : FTy} (f2 : Vec Ideal S256x256 .bf16) (f1 : Vec Ideal S256x128 .bf16) (v : FVec Ideal S128x256 φ)
    (h1 : ∀ r c, f1 (ix2 r c) = 0) (h2 : ∀ (r : Fin 256) (c : Fin 128), f2 (ix2 r ⟨128 + c.val, by omega⟩) = 0) (r l : Fin 256) :
    fwdV f2 f1 v (ix2 r l) = ∑ t : Fin 128, f2 (ix2 r ⟨t.val, by omega⟩) * v (ix2 t l) := by
  unfold fwdV
  pointwise [dotA, dotB]
  simp only [h1, h2, zero_mul, Finset.sum_const_zero, add_zero]

theorem fwdH_apply {φ : FTy} (f2 : Vec Ideal S256x256 .bf16) (f1 : Vec Ideal S256x128 .bf16) (v : FVec Ideal S256x128 φ)
    (h1 : ∀ r c, f1 (ix2 r c) = 0) (h2 : ∀ (r : Fin 256) (c : Fin 128), f2 (ix2 r ⟨128 + c.val, by omega⟩) = 0) (r l : Fin 256) :
    fwdH f2 f1 v (ix2 r l) = ∑ t : Fin 128, f2 (ix2 r ⟨t.val, by omega⟩) * v (ix2 l t) := by
  unfold fwdH
  pointwise [dotAt, dotBt]
  simp only [h1, h2, zero_mul, Finset.sum_const_zero, add_zero]

theorem invT_apply (g : Vec Ideal S1x128x256 .bf16) (z : Vec Ideal S1x1x256x256 .bf16) (p : Fin 128) (l : Fin 256) :
    invT g z (ix2 p l) = ∑ k : Fin 256, g (ix3 0 p k) * z (ix4 0 0 k l) := by
  unfold invT
  pointwise [dotG]

/-! ### What the inputs hold -/

/-- The forward table: cosines, then sines with the other sign. -/
def tab (r t : ℕ) : ℝ := if r < 128 then Real.cos (th r * t) else -Real.sin (th (r - 128) * t)

/-- The inverse table. -/
def gtab (p r : ℕ) : ℝ := tab r p / 128

/-- The inputs hold the tables and finite sequences. -/
structure Good (I : In Ideal) (xr yr : Fin 2 → Fin 256 → ℕ → ℝ) (hr : Fin 256 → ℕ → ℝ) : Prop where
  f2 : ∀ (r : Fin 256) (c : Fin 128), I.f2 (ix2 r ⟨c.val, by omega⟩) = (tab r.val c.val : EReal)
  f2' : ∀ (r : Fin 256) (c : Fin 128), I.f2 (ix2 r ⟨128 + c.val, by omega⟩) = 0
  f1 : ∀ r c, I.f1 (ix2 r c) = 0
  g : ∀ (p : Fin 128) (r : Fin 256), I.g (ix3 0 p r) = (gtab p.val r.val : EReal)
  g' : ∀ (m : Fin 3) (p : Fin 128) (r : Fin 256), m ≠ 0 → I.g (ix3 m p r) = 0
  x : ∀ b (s : Fin 512) l, I.x (ix3 b s l) = (xr b l s.val : EReal)
  y : ∀ b (s : Fin 512) l, I.y (ix3 b s l) = (yr b l s.val : EReal)
  h : ∀ l (s : Fin 512), I.h (ix2 l s) = (hr l s.val : EReal)
  y0 : ∀ b l n, 512 ≤ n → yr b l n = 0

variable {I : In Ideal} {xr yr : Fin 2 → Fin 256 → ℕ → ℝ} {hr : Fin 256 → ℕ → ℝ} (G : Good I xr yr hr)

theorem f2V_eq (I : In Ideal) : f2V I = I.f2 := by
  funext i; unfold f2V; refine congrArg I.f2 ?_
  funext a; apply Fin.ext; refine (unit_emb_val (s := _) i a).trans ?_; fin_cases a <;> simp

theorem f1V_eq (I : In Ideal) : f1V I = I.f1 := by
  funext i; unfold f1V; refine congrArg I.f1 ?_
  funext a; apply Fin.ext; refine (unit_emb_val (s := _) i a).trans ?_; fin_cases a <;> simp

theorem blkX_apply {e : EltTy} (x : Vec Ideal S2x512x256 e) (b : Fin 2) (j : Fin 4) (t : Fin 128) (l : Fin 256) :
    blkX x b j (ix2 t l) = x (ix3 b ⟨128 * j.val + t.val, by omega⟩ l) := by
  unfold blkX
  rw [cast_a, emb_rX]
  rfl

theorem blkH_apply (I : In Ideal) (j : Fin 4) (t : Fin 128) (l : Fin 256) :
    blkH I j (ix2 l t) = I.h (ix2 l ⟨128 * j.val + t.val, by omega⟩) := by
  unfold blkH
  pointwise
  rw [emb_rC]
  rfl

/-- A row of a spectrum. -/
def rowS (a : ℕ → ℝ) (j r : ℕ) : ℝ := ∑ t ∈ Finset.range 128, tab r t * a (128 * j + t)

include G in
theorem jY_apply (b : Fin 2) (j : Fin 4) (r l : Fin 256) : jY I b j (ix2 r l) = (rowS (yr b l) j r : EReal) := by
  unfold jY rowS
  rw [f2V_eq, f1V_eq, fwdV_apply _ _ _ G.f1 G.f2', ← Fin.sum_univ_eq_sum_range (fun t => tab r t * yr b l (128 * j + t)), coe_sum]
  refine Finset.sum_congr rfl fun t _ => ?_
  rw [G.f2, blkX_apply, G.y, EReal.coe_mul]

include G in
theorem jX_apply (b : Fin 2) (j : Fin 4) (r l : Fin 256) : jX I b j (ix2 r l) = (rowS (xr b l) j r : EReal) := by
  unfold jX rowS
  rw [f2V_eq, f1V_eq, fwdV_apply _ _ _ G.f1 G.f2', ← Fin.sum_univ_eq_sum_range (fun t => tab r t * xr b l (128 * j + t)), coe_sum]
  refine Finset.sum_congr rfl fun t _ => ?_
  rw [G.f2, blkX_apply, G.x, EReal.coe_mul]

include G in
theorem jH_apply (j : Fin 4) (r l : Fin 256) : jH I j (ix2 r l) = (rowS (hr l) j r : EReal) := by
  unfold jH rowS
  rw [f2V_eq, f1V_eq, fwdH_apply _ _ _ G.f1 G.f2', ← Fin.sum_univ_eq_sum_range (fun t => tab r t * hr l (128 * j + t)), coe_sum]
  refine Finset.sum_congr rfl fun t _ => ?_
  rw [G.f2, blkH_apply, G.h, EReal.coe_mul]

theorem rowS_re (a : ℕ → ℝ) (j r : ℕ) (h : r < 128) : rowS a j r = (spec a j r).re := by
  unfold rowS spec; rw [Complex.re_sum]
  refine Finset.sum_congr rfl fun t _ => ?_
  rw [Complex.re_ofReal_mul, wv_re, mul_neg, Real.cos_neg, tab, if_pos h]; ring

theorem rowS_im (a : ℕ → ℝ) (j r : ℕ) : rowS a j (128 + r) = (spec a j r).im := by
  unfold rowS spec; rw [Complex.im_sum]
  refine Finset.sum_congr rfl fun t _ => ?_
  rw [Complex.im_ofReal_mul, wv_im, mul_neg, Real.sin_neg, tab, if_neg (by omega), Nat.add_sub_cancel_left]; ring

/-! ### Complex numbers -/

/-- A complex number's parts. -/
def up (z : ℂ) : CS Ideal := ((z.re : EReal), (z.im : EReal))

theorem up_scm (a v : ℂ) : scm (up a) (up v) = up ((starRingEnd ℂ) a * v) := by
  unfold scm up
  refine Prod.ext ?_ ?_
  · show (_ : EReal) * _ + _ * _ = _
    rw [← EReal.coe_mul, ← EReal.coe_mul, ← EReal.coe_add]; congr 1; simp [Complex.mul_re]
  · show (_ : EReal) * _ - _ * _ = _
    rw [← EReal.coe_mul, ← EReal.coe_mul, ← EReal.coe_sub]; congr 1; simp [Complex.mul_im]; ring

theorem up_add (a v : ℂ) : saddP (up a) (up v) = up (a + v) := by
  unfold saddP up
  refine Prod.ext ?_ ?_
  · show (_ : EReal) + _ = _
    rw [← EReal.coe_add, Complex.add_re]
  · show (_ : EReal) + _ = _
    rw [← EReal.coe_add, Complex.add_im]

theorem up_win (r : Fin 128) (a b : ℂ) : swin1 (posR r) (up a) (up b) = up (a + wv r (-128) * b) := by
  rw [wv_128]
  unfold posR eps
  by_cases h : r.val < 64
  · rw [decide_eq_true h, if_pos h]
    refine Prod.ext ?_ ?_
    · show (_ : EReal) + _ = _
      simp only [up]; rw [← EReal.coe_add]; congr 1; simp
    · show (_ : EReal) - _ = _
      simp only [up]; rw [← EReal.coe_sub]; congr 1; simp; ring
  · rw [decide_eq_false h, if_neg h]
    refine Prod.ext ?_ ?_
    · show (_ : EReal) - _ = _
      simp only [up]; rw [← EReal.coe_sub]; congr 1; simp; ring
    · show (_ : EReal) + _ = _
      simp only [up]; rw [← EReal.coe_add]; congr 1; simp

theorem up_zsum (f : ℕ → CS Ideal) (f' : ℕ → ℂ) (n : ℕ) (h : ∀ d, d ≤ n → f d = up (f' d)) :
    szsum f n = up (∑ d ∈ Finset.range (n + 1), f' d) := by
  induction n with
  | zero => rw [Finset.sum_range_one]; exact h 0 le_rfl
  | succ n ih =>
    rw [Finset.sum_range_succ, ← up_add, ← ih fun d hd => h d (by omega), ← h (n + 1) le_rfl]; rfl

theorem up_zfrom (z : CS Ideal) (z' : ℂ) (hz : z = up z') (f : ℕ → CS Ideal) (f' : ℕ → ℂ) (n : ℕ) (h : ∀ d, d ≤ n → f d = up (f' d)) :
    szfrom z f n = up (z' + ∑ d ∈ Finset.range (n + 1), f' d) := by
  induction n with
  | zero => rw [Finset.sum_range_one, ← up_add, ← hz, ← h 0 le_rfl]; rfl
  | succ n ih =>
    rw [Finset.sum_range_succ, ← add_assoc, ← up_add, ← ih fun d hd => h d (by omega), ← h (n + 1) le_rfl]; rfl

include G in
theorem cplxY (b : Fin 2) (j : Fin 4) (r : Fin 128) (l : Fin 256) : cplx (jY I b j) r l = up (spec (yr b l) j r) := by
  unfold cplx up; rw [← ix2_eq_valueIdx, ← ix2_eq_valueIdx, jY_apply G, jY_apply G, rowS_re _ _ _ r.isLt, rowS_im]

include G in
theorem cplxX (b : Fin 2) (j : Fin 4) (r : Fin 128) (l : Fin 256) : cplx (jX I b j) r l = up (spec (xr b l) j r) := by
  unfold cplx up; rw [← ix2_eq_valueIdx, ← ix2_eq_valueIdx, jX_apply G, jX_apply G, rowS_re _ _ _ r.isLt, rowS_im]

include G in
theorem cplxH (j : Fin 4) (r : Fin 128) (l : Fin 256) : cplx (jH I j) r l = up (spec (hr l) j r) := by
  unfold cplx up; rw [← ix2_eq_valueIdx, ← ix2_eq_valueIdx, jH_apply G, jH_apply G, rowS_re _ _ _ r.isLt, rowS_im]

theorem spec_zero (a : ℕ → ℝ) (ha : ∀ n, 512 ≤ n → a n = 0) (r : ℕ) : spec a 4 r = 0 := by
  unfold spec
  exact Finset.sum_eq_zero fun u _ => by rw [ha _ (by omega)]; simp

include G in
theorem sV_apply (b : Fin 2) (r : Fin 128) (l : Fin 256) (n : ℕ) (hn : n < 4) : sV I b r l n = up (vspec (yr b l) n r) := by
  unfold sV swin vspec
  rw [cplxY G, cplxY G, cplxY G, cplxY G]
  match n, hn with
  | 0, _ => exact up_win r _ _
  | 1, _ => exact up_win r _ _
  | 2, _ => exact up_win r _ _
  | 3, _ => rw [spec_zero _ (G.y0 b l), mul_zero, add_zero]; rfl

include G in
theorem sX_apply (b : Fin 2) (r : Fin 128) (l : Fin 256) (n : ℕ) (hn : n < 4) : sX I b r l n = up (spec (xr b l) n r) := by
  unfold sX
  rw [cplxX G, cplxX G, cplxX G, cplxX G]
  match n, hn with
  | 0, _ => rfl
  | 1, _ => rfl
  | 2, _ => rfl
  | 3, _ => rfl

include G in
theorem sH_apply (r : Fin 128) (l : Fin 256) (n : ℕ) (hn : n < 4) : sH I r l n = up (spec (hr l) n r) := by
  unfold sH
  rw [cplxH G, cplxH G, cplxH G, cplxH G]
  match n, hn with
  | 0, _ => rfl
  | 1, _ => rfl
  | 2, _ => rfl
  | 3, _ => rfl

/-- The products' spectrum at a block offset. -/
def prodS (a y : ℕ → ℝ) (i r : ℕ) : ℂ := ∑ d ∈ Finset.range (4 - i), (starRingEnd ℂ) (spec a d r) * vspec y (i + d) r

include G in
theorem zX_apply (b : Fin 2) (i : ℕ) (hi : i < 4) (r : Fin 128) (l : Fin 256) : zX I b i r l = up (prodS (hr l) (yr b l) i r) := by
  unfold zX prodS
  rw [show 4 - i = 3 - i + 1 by omega]
  exact up_zsum _ _ _ fun d hd => by rw [sH_apply G _ _ _ (by omega), sV_apply G _ _ _ _ (by omega), up_scm]

include G in
theorem zH_apply (i : ℕ) (hi : i < 4) (r : Fin 128) (l : Fin 256) :
    zH I i r l = up (prodS (xr 0 l) (yr 0 l) i r + prodS (xr 1 l) (yr 1 l) i r) := by
  unfold zH prodS
  rw [show 4 - i = 3 - i + 1 by omega]
  refine up_zfrom _ _ (up_zsum _ _ _ fun d hd => ?_) _ _ _ fun d hd => ?_ <;>
  rw [sX_apply G _ _ _ _ (by omega), sV_apply G _ _ _ _ (by omega), up_scm, add_comm d]

end Conv

end
-- ==== Proof.NumB.lean ====
module

public import proofs.«01_k».proof.Proof.NumA

@[expose] public section

set_option maxRecDepth 16384

/-! What the body leaves in its result arrays, over the reals: the two correlations with their scales. -/

noncomputable section

namespace Conv

open Idealize.ShloMosaic

variable {I : In Ideal} {xr yr : Fin 2 → Fin 256 → ℕ → ℝ} {hr : Fin 256 → ℕ → ℝ} (G : Good I xr yr hr)

/-- The leading limb over the reals: the value itself. -/
def hiR : Ideal .f32 → Ideal .f32 := fun v => FloatOps.extf .f32 lt16 (FloatOps.truncf .bf16 lt16 v)

theorem hiR_apply (v : Ideal .f32) : hiR v = v := rfl

/-- The spectrum of a result block. -/
def Zc (xr yr : Fin 2 → Fin 256 → ℕ → ℝ) (hr : Fin 256 → ℕ → ℝ) (k : ℕ) (l : Fin 256) (r : ℕ) : ℂ :=
  if k < 4 then prodS (hr l) (yr 0 l) k r else if k < 8 then prodS (hr l) (yr 1 l) (k - 4) r
  else prodS (xr 0 l) (yr 0 l) (k - 8) r + prodS (xr 1 l) (yr 1 l) (k - 8) r

include G in
theorem zAll_apply (k : ℕ) (hk : k < 12) (r : Fin 128) (l : Fin 256) : zAll I k r l = up (Zc xr yr hr k l r) := by
  unfold zAll Zc
  by_cases h1 : k < 4
  · rw [if_pos h1, if_pos h1, zX_apply G _ _ h1]
  · rw [if_neg h1, if_neg h1]
    by_cases h2 : k < 8
    · rw [if_pos h2, if_pos h2, zX_apply G _ _ (by omega)]
    · rw [if_neg h2, if_neg h2, zH_apply G _ (by omega)]

/-- One row of a result block's spectrum. -/
def zR (xr yr : Fin 2 → Fin 256 → ℕ → ℝ) (hr : Fin 256 → ℕ → ℝ) (k : ℕ) (l : Fin 256) (row : ℕ) : ℝ :=
  if row < 128 then (Zc xr yr hr k l row).re else (Zc xr yr hr k l (row - 128)).im

include G in
theorem zval_apply (k : ℕ) (hk : k < 12) (row l : Fin 256) : zval I k row l = (zR xr yr hr k l row : EReal) := by
  unfold zval zR
  by_cases h : row.val < 128
  · rw [dif_pos h, if_pos h, zAll_apply G _ hk]; rfl
  · rw [dif_neg h, if_neg h, zAll_apply G _ hk]; rfl

theorem rest1_coe (a : ℝ) : rest1 hiR ((a : EReal) : Ideal .f32) = (0 : EReal) := by
  show ((a : EReal)) - (a : EReal) = 0
  rw [← EReal.coe_sub, sub_self, EReal.coe_zero]

theorem limbS_coe (n : ℕ) (a : ℝ) : limbS hiR n ((a : EReal) : Ideal .f32) = if n = 0 then (a : EReal) else 0 := by
  match n with
  | 0 => rfl
  | 1 => show rest1 hiR (a : EReal) = _; rw [rest1_coe]; rfl
  | n + 2 =>
    show rest1 hiR (rest1 hiR (a : EReal)) = _
    rw [rest1_coe]
    exact (rest1_coe 0).trans rfl

include G in
theorem gZ_apply (k : Fin 12) (n : Fin 3) (row l : Fin 256) :
    gZ I hiR (ix4 k n row l) = if n.val = 0 then (zR xr yr hr k l row : EReal) else 0 := by
  unfold gZ
  show limbS hiR n.val (zval I k.val row l) = _
  rw [zval_apply G _ k.isLt, limbS_coe]

theorem rG_apply (g : Vec Ideal S3x128x256 .bf16) (m : Fin 3) (p : Fin 128) (r : Fin 256) :
    g ((rG m.val m.isLt).emb (ix3 0 p r)) = g (ix3 m p r) := by
  refine congrArg g ?_
  funext a; apply Fin.ext; refine (unit_emb_val (s := _) _ a).trans ?_; fin_cases a <;> simp [ix3]

theorem rZw_apply (z : Vec Ideal S12x3x256x256 .bf16) (k : Fin 12) (n : Fin 3) (r l : Fin 256) :
    z ((rZw k.val n.val ⟨k.isLt, n.isLt⟩).emb (ix4 0 0 r l)) = z (ix4 k n r l) := by
  refine congrArg z ?_
  funext a; apply Fin.ext; refine (unit_emb_val (s := _) _ a).trans ?_; fin_cases a <;> simp [ix4]

include G in
theorem invP_apply (k : Fin 12) (n m : Fin 3) (p : Fin 128) (l : Fin 256) :
    invP I hiR k n m (ix2 p l) = if n = 0 ∧ m = 0 then ((∑ row ∈ Finset.range 256, gtab p row * zR xr yr hr k l row : ℝ) : EReal) else 0 := by
  unfold invP
  rw [invT_apply]
  simp only [rG_apply, rZw_apply, gZ_apply G]
  by_cases hn : n = 0
  · by_cases hm : m = 0
    · subst hn hm
      simp only [and_self, if_true, Fin.val_zero, G.g]
      rw [← Fin.sum_univ_eq_sum_range (fun row => gtab p row * zR xr yr hr k l row), coe_sum]
      exact Finset.sum_congr rfl fun r _ => (EReal.coe_mul _ _).symm
    · rw [if_neg fun h => hm h.2]
      exact Finset.sum_eq_zero fun r _ => by rw [G.g' _ _ _ hm, zero_mul]
  · rw [if_neg fun h => hn h.1]
    exact Finset.sum_eq_zero fun r _ => by
      rw [if_neg (show ¬ n.val = 0 from fun h => hn (Fin.ext h)), mul_zero]

theorem inv_sum (k : ℕ) (p : ℕ) (l : Fin 256) :
    ∑ row ∈ Finset.range 256, gtab p row * zR xr yr hr k l row = invR (Zc xr yr hr k l) p := by
  rw [show (256 : ℕ) = 128 + 128 from rfl, Finset.sum_range_add, ← Finset.sum_add_distrib]
  unfold invR
  refine Finset.sum_congr rfl fun r hr' => ?_
  have h := Finset.mem_range.mp hr'
  unfold gtab tab zR
  rw [if_pos h, if_pos h, if_neg (by omega), if_neg (by omega), Nat.add_sub_cancel_left, Complex.mul_re, wv_re, wv_im]
  ring

/-- A result block, without scales. -/
def blkR (xr yr : Fin 2 → Fin 256 → ℕ → ℝ) (hr : Fin 256 → ℕ → ℝ) (k : ℕ) (l : Fin 256) (p : ℕ) : ℝ :=
  if k < 4 then corr (hr l) (yr 0 l) (128 * k + p) else if k < 8 then corr (hr l) (yr 1 l) (128 * (k - 4) + p)
  else corr (xr 0 l) (yr 0 l) (128 * (k - 8) + p) + corr (xr 1 l) (yr 1 l) (128 * (k - 8) + p)

theorem prod_corr (a y : ℕ → ℝ) (hy : ∀ n, 512 ≤ n → y n = 0) (i p : ℕ) (hi : i < 4) (hp : p < 128) :
    invR (prodS a y i) p = corr a y (128 * i + p) := inv_corr a y hy i p hi hp

include G in
theorem inv_blk (k : Fin 12) (p : Fin 128) (l : Fin 256) : invR (Zc xr yr hr k l) p = blkR xr yr hr k l p := by
  unfold blkR
  have hk := k.isLt
  by_cases h1 : k.val < 4
  · rw [if_pos h1, ← prod_corr _ _ (G.y0 0 l) _ _ h1 p.isLt]; congr 1; funext r; unfold Zc; rw [if_pos h1]
  · rw [if_neg h1]
    by_cases h2 : k.val < 8
    · rw [if_pos h2, ← prod_corr _ _ (G.y0 1 l) _ _ (by omega) p.isLt]; congr 1; funext r; unfold Zc; rw [if_neg h1, if_pos h2]
    · rw [if_neg h2, ← prod_corr _ _ (G.y0 0 l) _ _ (by omega) p.isLt, ← prod_corr _ _ (G.y0 1 l) _ _ (by omega) p.isLt, ← invR_add]
      congr 1; funext r; unfold Zc; rw [if_neg h1, if_neg h2]

include G in
theorem invV_apply (k : Fin 12) (p : Fin 128) (l : Fin 256) : invV I hiR k (ix2 p l) = (blkR xr yr hr k l p : EReal) := by
  rw [← inv_blk G k p l, ← inv_sum]
  unfold invV
  pointwise
  simp only [invP_apply G]
  simp

theorem rowV_apply (v : Vec Ideal S1x256 .f32) (l : Fin 256) : rowV v (ix2 0 l) = v (ix2 0 l) := by
  unfold rowV
  pointwise
  refine congrArg v ?_
  funext a; apply Fin.ext; refine (unit_emb_val (s := _) _ a).trans ?_; fin_cases a <;> simp [ix2]

/-- The input gradient before rows are cleared. -/
theorem outXV_apply (k : Fin 12) (p : Fin 128) (l : Fin 256) :
    outXV I hiR k (ix2 p l) = invV I hiR k (ix2 p l) * (I.hs (ix2 0 l) * I.ds (ix2 0 l)) := by
  unfold outXV scX
  pointwise
  rw [rowV_apply, rowV_apply]

theorem outHV_apply (k : Fin 12) (p : Fin 128) (l : Fin 256) :
    outHV I hiR k (ix2 l p) = invV I hiR k (ix2 p l) * (I.ds (ix2 0 l) * I.xs (ix2 0 l)) := by
  unfold outHV scH
  pointwise
  rw [rowV_apply, rowV_apply]

/-- The input gradient without scales. -/
def dxR (yr : Fin 2 → Fin 256 → ℕ → ℝ) (hr : Fin 256 → ℕ → ℝ) (b : Fin 2) (t : ℕ) (l : Fin 256) : ℝ := corr (hr l) (yr b l) t

/-- The filter gradient without scales. -/
def dhR (xr yr : Fin 2 → Fin 256 → ℕ → ℝ) (l : Fin 256) (u : ℕ) : ℝ := corr (xr 0 l) (yr 0 l) u + corr (xr 1 l) (yr 1 l) u

theorem blkR_dx (b : Fin 2) (t : ℕ) (ht : t < 512) (l : Fin 256) :
    blkR xr yr hr (4 * b.val + t / 128) l (t % 128) = dxR yr hr b t l := by
  unfold blkR dxR
  have e : 128 * (t / 128) + t % 128 = t := Nat.div_add_mod t 128
  match b with
  | 0 => rw [if_pos (by simp; omega), show 4 * (0 : Fin 2).val + t / 128 = t / 128 by simp, e]
  | 1 => rw [if_neg (by simp), if_pos (by simp; omega), show 4 * (1 : Fin 2).val + t / 128 - 4 = t / 128 by simp, e]

theorem blkR_dh (u : ℕ) (l : Fin 256) : blkR xr yr hr (8 + u / 128) l (u % 128) = dhR xr yr l u := by
  unfold blkR dhR
  have e : 128 * (u / 128) + u % 128 = u := Nat.div_add_mod u 128
  rw [if_neg (by omega), if_neg (by omega), Nat.add_sub_cancel_left, e]

include G in
theorem dx0_apply (b : Fin 2) (t : Fin 512) (l : Fin 256) :
    dx0 I hiR (ix3 b t l) = (dxR yr hr b t.val l : EReal) * (I.hs (ix2 0 l) * I.ds (ix2 0 l)) := by
  unfold dx0
  refine (congrArg (outXV I hiR ⟨4 * b.val + t.val / 128, by have := b.isLt; have := t.isLt; omega⟩)
    (ix2_eq_valueIdx (⟨t.val % 128, by omega⟩ : Fin 128) l)).symm.trans ?_
  show outXV I hiR ⟨4 * b.val + t.val / 128, _⟩ (ix2 ⟨t.val % 128, _⟩ l) = _
  rw [outXV_apply, invV_apply G]
  show (blkR xr yr hr (4 * b.val + t.val / 128) l (t.val % 128) : EReal) * _ = _
  rw [blkR_dx _ _ t.isLt]

include G in
theorem dhF_apply (l : Fin 256) (u : Fin 512) :
    dhF I hiR (ix2 l u) = (dhR xr yr l u.val : EReal) * (I.ds (ix2 0 l) * I.xs (ix2 0 l)) := by
  unfold dhF
  refine (congrArg (outHV I hiR ⟨8 + u.val / 128, by have := u.isLt; omega⟩)
    (ix2_eq_valueIdx l (⟨u.val % 128, by omega⟩ : Fin 128))).symm.trans ?_
  show outHV I hiR ⟨8 + u.val / 128, _⟩ (ix2 l ⟨u.val % 128, _⟩) = _
  rw [outHV_apply, invV_apply G]
  show (blkR xr yr hr (8 + u.val / 128) l (u.val % 128) : EReal) * _ = _
  rw [blkR_dh]

/-! ### Clearing rows changes nothing -/

theorem corr_zero (a y : ℕ → ℝ) (o : ℕ) (h : ∀ n, o ≤ n → y n = 0) : corr a y o = 0 :=
  Finset.sum_eq_zero fun s _ => by rw [h _ (by omega), mul_zero]

theorem le_fold (f : Fin 512 → BitVec 32) (a : BitVec 32) [Std.Commutative (IntOp.maxsi (w := 32))] [Std.Associative (IntOp.maxsi (w := 32))]
    (s : Finset (Fin 512)) : ∀ x ∈ s, (f x).toInt ≤ (Finset.fold IntOp.maxsi a f s).toInt := by
  have mx : ∀ p q : BitVec 32, p.toInt ≤ (IntOp.maxsi p q).toInt ∧ q.toInt ≤ (IntOp.maxsi p q).toInt := fun p q => by
    unfold IntOp.maxsi
    by_cases h : q.slt p = true
    · rw [if_pos h]; rw [BitVec.slt_iff_toInt_lt] at h; omega
    · rw [if_neg h]; rw [BitVec.slt_iff_toInt_lt] at h; omega
  induction s using Finset.induction_on with
  | empty => intro x h; exact absurd h (Finset.notMem_empty x)
  | insert c s hc ih =>
    intro x h
    rw [Finset.fold_insert hc]
    rcases Finset.mem_insert.mp h with h | h
    · rw [h]; exact (mx _ _).1
    · exact (ih x h).trans (mx _ _).2

theorem clearV_apply (v : Vec Ideal S1x512x256 .fp8e5m2) (cur : Vec Ideal S1x512x256 .bf16) (t : Fin 512) (l : Fin 256)
    (h : (∀ s : Fin 512, t.val ≤ s.val → v (ix3 0 s l) = (0 : EReal)) → cur (ix3 0 t l) = (0 : EReal)) :
    clearV v cur (ix3 0 t l) = cur (ix3 0 t l) := by
  unfold clearV
  pointwise
  unfold Scalar.select
  split
  · rfl
  · rename_i hc
    refine (h fun s hs => ?_).symm
    by_contra hv
    refine hc ?_
    show BitVec.ofBool (BitVec.sle _ _) = _
    refine congrArg BitVec.ofBool (BitVec.sle_iff_toInt_le.mpr ?_)
    refine le_trans ?_ (le_fold _ _ Finset.univ s (Finset.mem_univ s))
    beta_reduce
    rw [if_pos hv]
    have e : ∀ n : Fin 512, (BitVec.ofNat 32 n.val).toInt = n.val := fun n => by
      have := n.isLt
      rw [BitVec.toInt_ofNat']; exact (Int.bmod_eq_of_le (by omega) (by omega))
    rw [e, e]; exact_mod_cast hs

include G in
theorem clrV_apply (b : Fin 2) (t : Fin 512) (l : Fin 256) : clrV I hiR b (ix3 0 t l) = dx0 I hiR (ix3 b t l) := by
  have e : ∀ s : Fin 512, (rXw b.val b.isLt).emb (ix3 (n0 := 1) (n1 := 512) (n2 := 256) 0 s l) = ix3 b s l := fun s =>
    (emb_rXw b.val b.isLt _).trans (ix3_eq_valueIdx b s l).symm
  unfold clrV
  refine (clearV_apply _ _ t l fun h => ?_).trans (congrArg (dx0 I hiR) (e t))
  refine (congrArg (dx0 I hiR) (e t)).trans ?_
  rw [dx0_apply G]
  have hz : dxR yr hr b t.val l = 0 := by
    unfold dxR
    refine corr_zero _ _ _ fun n hn => ?_
    by_cases h5 : n < 512
    · have := h ⟨n, h5⟩ hn
      rw [e, G.y] at this
      exact EReal.coe_eq_zero.mp this
    · exact G.y0 b l n (by omega)
  rw [hz, EReal.coe_zero, zero_mul]

include G in
/-- The input gradient. -/
theorem dxF_apply (b : Fin 2) (t : Fin 512) (l : Fin 256) :
    dxF I hiR (ix3 b t l) = (dxR yr hr b t.val l : EReal) * (I.hs (ix2 0 l) * I.ds (ix2 0 l)) := by
  unfold dxF
  split
  · refine Eq.trans ?_ (dx0_apply G b t l)
    refine (congrArg (clrV I hiR b) (ix3_eq_valueIdx (0 : Fin 1) t l)).symm.trans ?_
    exact clrV_apply G b t l
  · exact dx0_apply G b t l

end Conv

end
-- ==== Proof.Tab.lean ====
module

public import proofs.«01_k».proof.Proof.Gen.KernelIdeal.Frame
public import proofs.«01_k».proof.Proof.NumB
public import Idealize.ShloMosaic.Lib.Pipeline.ValueKit
public import Idealize.ShloMosaic.Lib.Claim
public import Idealize.ShloMosaic.Lib.IdealHost

@[expose] public section

set_option maxRecDepth 16384
set_option maxHeartbeats 4000000

/-! What the host leaves in the operands of the pallas_call. -/

noncomputable section

open Idealize.ShloMosaic Idealize.ShloMosaic.TcCoe Idealize.SL.Sem

namespace Cert.KernelIdeal.Value

open Cert.KernelIdeal Cert.KernelIdeal.Gen

abbrev kE (z : BitVec 32) : IVec S64 32 :=
  addi (broadcastInDim S64 ![] bcast_S_S64 (constantI S_ 32 z)) (muli (broadcastInDim S64 ![] bcast_S_S64 (constantI S_ 32 2#32)) (iotaInDim S64 32 0))

/-- The frequency numbers. -/
abbrev kT : IVec S128 32 := concatenate S128 0 [⟨S64, kE 0#32⟩, ⟨S64, kE 1#32⟩] concatenates_S64_S64_S128_d0

/-- The angles. -/
abbrev angT (k : IVec S128 32) : FVec Ideal S128x128 .f32 :=
  Host.divf (mulf (broadcastInDim S128x128 ![] bcast_S_S128x128 (Host.acos (constant S_ FTy.f32 3212836864#32 : FVec Ideal S_ .f32)))
      (sitofp FTy.f32 (andi (muli
          (broadcastInDim S128x128 ![0, 1] bcast_S128x1_S128x128_0_1
            (addi (muli (broadcastInDim S128x1 ![] bcast_S_S128x1 (constantI S_ 32 2#32)) (broadcastInDim S128x1 ![0] bcast_S128_S128x1_0 k))
              (broadcastInDim S128x1 ![] bcast_S_S128x1 (constantI S_ 32 1#32))))
          (broadcastInDim S128x128 ![0, 1] bcast_S1x128_S128x128_0_1 (broadcastInDim S1x128 ![1] bcast_S128_S1x128_1 (iotaInDim S128 32 0))))
        (broadcastInDim S128x128 ![] bcast_S_S128x128 (constantI S_ 32 511#32)))))
    (broadcastInDim S128x128 ![] bcast_S_S128x128 (constant S_ FTy.f32 1132462080#32))

/-- The forward table. -/
abbrev fwdT (a : FVec Ideal S128x128 .f32) : FVec Ideal S256x128 .f32 :=
  concatenate S256x128 0 [⟨S128x128, Host.cos a⟩, ⟨S128x128, Host.negf (Host.sin a)⟩] concatenates_S128x128_S128x128_S256x128_d0

/-- The inverse table. -/
abbrev bwdT (a : FVec Ideal S128x128 .f32) : FVec Ideal S128x256 .f32 :=
  Host.divf (concatenate S128x256 1 [⟨S128x128, transpose S128x128 [1, 0] (Host.cos a) transposes_S128x128_S128x128_1_0⟩,
      ⟨S128x128, Host.negf (transpose S128x128 [1, 0] (Host.sin a) transposes_S128x128_S128x128_1_0)⟩] concatenates_S128x128_S128x128_S128x256_d1)
    (broadcastInDim S128x256 ![] bcast_S_S128x256 (constant S_ FTy.f32 1124073472#32))

/-- What is left of a table without its leading limb. -/
abbrev restT {s : Shape} (v : FVec Ideal s .f32) : FVec Ideal s .f32 := subf v (extf FTy.f32 (truncf FTy.bf16 v bitsLt_bf16_f32) bitsLt_bf16_f32)

/-- A leading limb. -/
abbrev hiT {s : Shape} (v : FVec Ideal s .f32) : FVec Ideal s .bf16 := truncf FTy.bf16 v bitsLt_bf16_f32

variable (m : (ℓ : Loc nD τ sig) → Buf (Elt Ideal) ℓ) (c : Dev nD)

theorem V13 : @Eq (IVec S128 32) (V m c main_v13) kT := by exact rfl

theorem V31 : @Eq (FVec Ideal S128x128 .f32) (V m c main_v31) (angT (V m c main_v13)) := by exact rfl

theorem V35 : @Eq (FVec Ideal S256x128 .f32) (V m c main_v35) (fwdT (V m c main_v31)) := by exact rfl

theorem V43 : @Eq (FVec Ideal S128x256 .f32) (V m c main_v43) (bwdT (V m c main_v31)) := by exact rfl

theorem V53 : @Eq (FVec Ideal S256x256 .bf16) (V m c main_v53)
    (concatenate S256x256 1 [⟨S256x128, hiT (s := S256x128) (V m c main_v35)⟩, ⟨S256x128, hiT (restT (s := S256x128) (V m c main_v35))⟩]
      concatenates_S256x128_S256x128_S256x256_d1) := by exact rfl

theorem V50 : @Eq (FVec Ideal S256x128 .bf16) (V m c main_v50) (hiT (restT (restT (s := S256x128) (V m c main_v35)))) := by exact rfl

theorem V66 : @Eq (FVec Ideal S3x128x256 .bf16) (V m c main_v66)
    (concatenate S3x128x256 0 [⟨S1x128x256, broadcastInDim S1x128x256 ![1, 2] bcast_S128x256_S1x128x256_1_2 (hiT (s := S128x256) (V m c main_v43))⟩,
      ⟨S1x128x256, broadcastInDim S1x128x256 ![1, 2] bcast_S128x256_S1x128x256_1_2 (hiT (restT (s := S128x256) (V m c main_v43)))⟩,
      ⟨S1x128x256, broadcastInDim S1x128x256 ![1, 2] bcast_S128x256_S1x128x256_1_2 (hiT (restT (restT (s := S128x256) (V m c main_v43))))⟩]
      concatenates_S1x128x256_S1x128x256_S1x128x256_S3x128x256_d0) := by exact rfl

end Cert.KernelIdeal.Value

end
-- ==== Proof.Tables.lean ====
module

public import proofs.«01_k».proof.Proof.Tab

@[expose] public section

set_option maxRecDepth 16384

/-! The tables that the host computes, over the reals. -/

noncomputable section

open Idealize.ShloMosaic Idealize.ShloMosaic.TcCoe Idealize.SL.Sem

namespace Cert.KernelIdeal.Value

open Cert.KernelIdeal Cert.KernelIdeal.Gen

theorem kT_apply (r : Fin 128) : kT (ix1 r) = BitVec.ofNat 32 (Conv.kOf r.val) := by
  pointwise
  have hr := r.isLt
  unfold Conv.kOf
  split
  · show 0#32 + 2#32 * BitVec.ofNat 32 r.val = _
    apply BitVec.eq_of_toNat_eq
    simp only [BitVec.toNat_add, BitVec.toNat_mul, BitVec.toNat_ofNat]; omega
  · show 1#32 + 2#32 * BitVec.ofNat 32 (r.val - 64) = _
    apply BitVec.eq_of_toNat_eq
    simp only [BitVec.toNat_add, BitVec.toNat_mul, BitVec.toNat_ofNat]; omega

/-- The angle of a table entry, reduced to one turn. -/
def turn (r t : ℕ) : ℝ := Real.pi * (((2 * Conv.kOf r + 1) * t % 512 : ℕ) : ℝ) / 256

theorem turn_eq (r t : ℕ) : turn r t = Conv.th r * t - ((2 * Conv.kOf r + 1) * t / 512 : ℕ) * (2 * Real.pi) := by
  have h : (((2 * Conv.kOf r + 1) * t : ℕ) : ℝ) = (((2 * Conv.kOf r + 1) * t % 512 : ℕ) : ℝ) + 512 * (((2 * Conv.kOf r + 1) * t / 512 : ℕ) : ℝ) := by
    exact_mod_cast (Nat.mod_add_div _ 512).symm
  push_cast at h
  unfold turn Conv.th
  have h' : (((2 * Conv.kOf r + 1) * t % 512 : ℕ) : ℝ) = (2 * (Conv.kOf r : ℝ) + 1) * t - 512 * (((2 * Conv.kOf r + 1) * t / 512 : ℕ) : ℝ) := by
    linarith
  rw [h']; ring

theorem cos_turn (r t : ℕ) : Real.cos (turn r t) = Real.cos (Conv.th r * t) := by
  rw [turn_eq, Real.cos_sub_nat_mul_two_pi]

theorem sin_turn (r t : ℕ) : Real.sin (turn r t) = Real.sin (Conv.th r * t) := by
  rw [turn_eq, Real.sin_sub_nat_mul_two_pi]

theorem bits_neg_one : Ideal.ofBits .f32 3212836864#32 = ((-1 : ℝ) : EReal) := by
  simp [Ideal.ofBits, Ideal.ieee, -EReal.coe_mul, -EReal.coe_neg]; norm_num

theorem bits_256 : Ideal.ofBits .f32 1132462080#32 = ((256 : ℝ) : EReal) := by
  simp [Ideal.ofBits, Ideal.ieee, -EReal.coe_mul]; norm_num

theorem bits_128 : Ideal.ofBits .f32 1124073472#32 = ((128 : ℝ) : EReal) := by
  simp [Ideal.ofBits, Ideal.ieee, -EReal.coe_mul]; norm_num

theorem toInt_and (k t : ℕ) (hk : k < 128) (ht : t < 128) :
    (IntOp.andi (IntOp.muli (IntOp.addi (IntOp.muli 2#32 (BitVec.ofNat 32 k)) 1#32) (BitVec.ofNat 32 t)) 511#32).toInt = (((2 * k + 1) * t % 512 : ℕ) : ℤ) := by
  have hn : ((2#32 * BitVec.ofNat 32 k + 1#32) * BitVec.ofNat 32 t).toNat = (2 * k + 1) * t := by
    have e1 : (2#32 * BitVec.ofNat 32 k + 1#32).toNat = 2 * k + 1 := by
      simp only [BitVec.toNat_add, BitVec.toNat_mul, BitVec.toNat_ofNat]; omega
    have e2 : (BitVec.ofNat 32 t).toNat = t := by simp only [BitVec.toNat_ofNat]; omega
    have : (2 * k + 1) * t ≤ 255 * 127 := Nat.mul_le_mul (by omega) (by omega)
    rw [BitVec.toNat_mul, e1, e2]; omega
  show (((2#32 * BitVec.ofNat 32 k + 1#32) * BitVec.ofNat 32 t) &&& 511#32).toInt = _
  have h : (((2#32 * BitVec.ofNat 32 k + 1#32) * BitVec.ofNat 32 t) &&& 511#32).toNat = (2 * k + 1) * t % 512 := by
    rw [BitVec.toNat_and, hn]
    exact Nat.and_two_pow_sub_one_eq_mod _ 9
  rw [BitVec.toInt_eq_toNat_of_lt (by rw [h]; omega), h]

theorem kOf_lt (r : ℕ) (h : r < 128) : Conv.kOf r < 128 := by unfold Conv.kOf; split <;> omega

theorem angT_apply (r t : Fin 128) : angT kT (ix2 r t) = ((turn r.val t.val : ℝ) : EReal) := by
  have hk := kT_apply r
  generalize kT = k at hk
  pointwise
  rw [hk, bits_neg_one, bits_256, Ideal.acos_coe, if_pos (by norm_num), Real.arccos_neg_one, Ideal.div_coe (by norm_num)]
  show (Real.pi : EReal) * (((IntOp.andi _ _).toInt : ℝ) : EReal) * _ = _
  rw [toInt_and _ _ (kOf_lt _ r.isLt) t.isLt, Int.cast_natCast, ← EReal.coe_mul, ← EReal.coe_mul]
  congr 1
  unfold turn
  ring

theorem fwdT_apply (a : FVec Ideal S128x128 .f32) (ha : ∀ r t : Fin 128, a (ix2 r t) = ((turn r.val t.val : ℝ) : EReal)) (r : Fin 256) (t : Fin 128) :
    fwdT a (ix2 r t) = ((Conv.tab r.val t.val : ℝ) : EReal) := by
  pointwise
  unfold Conv.tab
  split
  · rename_i h
    rw [ha ⟨r.val, _⟩ t, Ideal.cos_coe, cos_turn]
  · rw [ha ⟨r.val - 128, _⟩ t, Ideal.sin_coe, sin_turn]
    rfl

theorem bwdT_apply (a : FVec Ideal S128x128 .f32) (ha : ∀ r t : Fin 128, a (ix2 r t) = ((turn r.val t.val : ℝ) : EReal)) (p : Fin 128) (r : Fin 256) :
    bwdT a (ix2 p r) = ((Conv.gtab p.val r.val : ℝ) : EReal) := by
  pointwise
  unfold Conv.gtab Conv.tab
  rw [bits_128, Ideal.div_coe (by norm_num)]
  split
  · rename_i h
    rw [ha ⟨r.val, _⟩ p, Ideal.cos_coe, cos_turn, ← EReal.coe_mul]
    congr 1; ring
  · rw [ha ⟨r.val - 128, _⟩ p, Ideal.sin_coe, sin_turn]
    rw [← EReal.coe_neg, ← EReal.coe_mul]
    congr 1; ring

theorem restT_apply {s : Shape} (v : FVec Ideal s .f32) (i : s.Idx) (x : ℝ) (h : v i = (x : EReal)) : restT v i = (0 : ℝ) := by
  show v i - v i = _
  rw [h, ← EReal.coe_sub, sub_self]

variable (m : (ℓ : Loc nD τ sig) → Buf (Elt Ideal) ℓ) (c : Dev nD)

theorem v31_apply (r t : Fin 128) : (V m c main_v31 : FVec Ideal S128x128 .f32) (ix2 r t) = ((turn r.val t.val : ℝ) : EReal) :=
  (congrFun (V31 m c) _).trans ((congrArg (fun k => angT k (ix2 r t)) (V13 m c)).trans (angT_apply r t))

theorem v35_apply (r : Fin 256) (t : Fin 128) : (V m c main_v35 : FVec Ideal S256x128 .f32) (ix2 r t) = ((Conv.tab r.val t.val : ℝ) : EReal) :=
  (congrFun (V35 m c) _).trans (fwdT_apply _ (v31_apply m c) r t)

theorem v43_apply (p : Fin 128) (r : Fin 256) : (V m c main_v43 : FVec Ideal S128x256 .f32) (ix2 p r) = ((Conv.gtab p.val r.val : ℝ) : EReal) :=
  (congrFun (V43 m c) _).trans (bwdT_apply _ (v31_apply m c) p r)

theorem f2_apply (r : Fin 256) (k : Fin 256) : (V m c main_v53 : FVec Ideal S256x256 .bf16) (ix2 r k)
    = if k.val < 128 then ((Conv.tab r.val k.val : ℝ) : EReal) else ((0 : ℝ) : EReal) := by
  refine (congrFun (V53 m c) _).trans ?_
  have h := v35_apply m c
  generalize (V m c main_v35 : FVec Ideal S256x128 .f32) = v at h ⊢
  pointwise
  split
  · exact h r ⟨k.val, _⟩
  · exact restT_apply v (ix2 r ⟨k.val - 128, _⟩) _ (h r _)

theorem f1_apply (r : Fin 256) (k : Fin 128) : (V m c main_v50 : FVec Ideal S256x128 .bf16) (ix2 r k) = ((0 : ℝ) : EReal) :=
  (congrFun (V50 m c) _).trans (restT_apply _ _ _ (restT_apply _ _ _ (v35_apply m c r k)))

theorem g_apply (q : Fin 3) (p : Fin 128) (r : Fin 256) : (V m c main_v66 : FVec Ideal S3x128x256 .bf16) (ix3 q p r)
    = if q.val = 0 then ((Conv.gtab p.val r.val : ℝ) : EReal) else ((0 : ℝ) : EReal) := by
  refine (congrFun (V66 m c) _).trans ?_
  have h := v43_apply m c
  generalize (V m c main_v43 : FVec Ideal S128x256 .f32) = v at h ⊢
  have h1 : restT v (ix2 p r) = ((0 : ℝ) : EReal) := restT_apply v _ _ (h p r)
  have h2 : restT (restT v) (ix2 p r) = ((0 : ℝ) : EReal) := restT_apply _ _ _ h1
  fin_cases q
  · pointwise
    exact h p r
  · pointwise
    exact h1
  · pointwise
    exact h2

end Cert.KernelIdeal.Value

end
-- ==== Proof.Codes.lean ====
module

public import proofs.«01_k».proof.Proof.Trig
public import Idealize.ShloMosaic.PureOps
public import Idealize.ShloMosaic.Lib.StableHlo
public import proofs.«01_k».proof.Pre_finite
public import Idealize.ShloMosaic.Lib.Pointwise

@[expose] public section

set_option maxRecDepth 16384

/-! The codes that the precondition admits stand for real numbers. -/

noncomputable section

open Idealize.ShloMosaic

namespace Codes

theorem e4_bits : ∀ b : BitVec 8, b ≠ 127#8 → b ≠ 255#8 → ¬((b.extractLsb' 3 4).toNat = 15 ∧ (b.extractLsb' 0 3).toNat = 7) := by
  decide +kernel

theorem e5_bits : ∀ b : BitVec 8, b.slt 124#8 = true → (BitVec.sle 0#8 b = true ∨ b.slt 252#8 = true) → ¬((b.extractLsb' 2 5).toNat = 2 ^ 5 - 1) := by
  decide +kernel

/-- A code of the first format, neither of its two exceptions, is a real number. -/
theorem e4 (b : BitVec 8) (h : b ≠ 127#8) (h' : b ≠ 255#8) : Ideal.ofBits .fp8e4m3 b = ((Ideal.ofBits .fp8e4m3 b).toReal : EReal) := by
  have k := e4_bits b h h'
  show Ideal.e4m3fn b = ((Ideal.e4m3fn b).toReal : EReal)
  unfold Ideal.e4m3fn
  rw [if_neg k]
  split <;> simp only [EReal.toReal_coe]

/-- A code of the second format, its largest exponent excepted, is a real number. -/
theorem e5 (b : BitVec 8) (h : b.slt 124#8 = true) (h' : BitVec.sle 0#8 b = true ∨ b.slt 252#8 = true) :
    Ideal.ofBits .fp8e5m2 b = ((Ideal.ofBits .fp8e5m2 b).toReal : EReal) := by
  have k := e5_bits b h h'
  show Ideal.ieee 5 2 b = ((Ideal.ieee 5 2 b).toReal : EReal)
  unfold Ideal.ieee
  rw [if_neg k]
  split <;> simp only [EReal.toReal_coe]

open Cert.Pre_finite

variable [Cert.Pre_finite.Facts] (a0 a2 : IVec S2x512x7168 8) (a4 : IVec S7168x512 8) (f1 f3 f5 : FVec Ideal S7168 .f32)

/-- The real number that a code of the first format stands for. -/
def r4 (b : BitVec 8) : ℝ := (Ideal.ofBits .fp8e4m3 b).toReal

/-- The real number that a code of the second format stands for. -/
def r5 (b : BitVec 8) : ℝ := (Ideal.ofBits .fp8e5m2 b).toReal

theorem e4_test : ∀ b : BitVec 8, IntOp.andi (IntOp.cmpi CmpIPredicate.ne b 127#8) (IntOp.cmpi CmpIPredicate.ne b 255#8) = 1#1 → b ≠ 127#8 ∧ b ≠ 255#8 := by
  decide +kernel

theorem e5_test : ∀ b : BitVec 8, IntOp.andi (IntOp.cmpi CmpIPredicate.slt b 124#8)
      (IntOp.ori (IntOp.cmpi CmpIPredicate.sge b 0#8) (IntOp.cmpi CmpIPredicate.slt b 252#8)) = 1#1
    → b.slt 124#8 = true ∧ (BitVec.sle 0#8 b = true ∨ b.slt 252#8 = true) := by
  decide +kernel

theorem real_x (H : (fn a0 f1 a2 f3 a4 f5).1 = fun _ => 1#1) (i : Fin 2) (s : Fin 512) (c : Fin 7168) :
    Ideal.ofBits .fp8e4m3 (a0 (ix3 i s c)) = (r4 (a0 (ix3 i s c)) : EReal) := by
  have h := congrFun H (ix3 i s c)
  unfold fn fn_part1 at h
  have k : IntOp.andi (IntOp.cmpi CmpIPredicate.ne (a0 (ix3 i s c)) 127#8) (IntOp.cmpi CmpIPredicate.ne (a0 (ix3 i s c)) 255#8) = 1#1 := by
    refine Eq.trans ?_ h
    pointwise
  exact e4 _ (e4_test _ k).1 (e4_test _ k).2

theorem real_y (H : (fn a0 f1 a2 f3 a4 f5).2.1 = fun _ => 1#1) (i : Fin 2) (s : Fin 512) (c : Fin 7168) :
    Ideal.ofBits .fp8e5m2 (a2 (ix3 i s c)) = (r5 (a2 (ix3 i s c)) : EReal) := by
  have h := congrFun H (ix3 i s c)
  unfold fn fn_part1 at h
  have k : IntOp.andi (IntOp.cmpi CmpIPredicate.slt (a2 (ix3 i s c)) 124#8)
      (IntOp.ori (IntOp.cmpi CmpIPredicate.sge (a2 (ix3 i s c)) 0#8) (IntOp.cmpi CmpIPredicate.slt (a2 (ix3 i s c)) 252#8)) = 1#1 := by
    refine Eq.trans ?_ h
    pointwise
  exact e5 _ (e5_test _ k).1 (e5_test _ k).2

theorem real_h (H : (fn a0 f1 a2 f3 a4 f5).2.2 = fun _ => 1#1) (c : Fin 7168) (s : Fin 512) :
    Ideal.ofBits .fp8e4m3 (a4 (ix2 c s)) = (r4 (a4 (ix2 c s)) : EReal) := by
  have h := congrFun H (ix2 c s)
  unfold fn fn_part1 at h
  have k : IntOp.andi (IntOp.cmpi CmpIPredicate.ne (a4 (ix2 c s)) 127#8) (IntOp.cmpi CmpIPredicate.ne (a4 (ix2 c s)) 255#8) = 1#1 := by
    refine Eq.trans ?_ h
    pointwise
  exact e4 _ (e4_test _ k).1 (e4_test _ k).2

/-- The sequences that the codes stand for, by channel and place; zero from the last place on. -/
def seq4 (a : IVec S2x512x7168 8) (c : Fin 7168) (i : Fin 2) (n : ℕ) : ℝ := if h : n < 512 then r4 (a (ix3 i ⟨n, h⟩ c)) else 0

def seq5 (a : IVec S2x512x7168 8) (c : Fin 7168) (i : Fin 2) (n : ℕ) : ℝ := if h : n < 512 then r5 (a (ix3 i ⟨n, h⟩ c)) else 0

def seqh (a : IVec S7168x512 8) (c : Fin 7168) (n : ℕ) : ℝ := if h : n < 512 then r4 (a (ix2 c ⟨n, h⟩)) else 0

theorem seq4_of (a : IVec S2x512x7168 8) (c : Fin 7168) (i : Fin 2) (n : Fin 512) : seq4 a c i n.val = r4 (a (ix3 i n c)) := dif_pos n.isLt

theorem seq5_of (a : IVec S2x512x7168 8) (c : Fin 7168) (i : Fin 2) (n : Fin 512) : seq5 a c i n.val = r5 (a (ix3 i n c)) := dif_pos n.isLt

theorem seqh_of (a : IVec S7168x512 8) (c : Fin 7168) (n : Fin 512) : seqh a c n.val = r4 (a (ix2 c n)) := dif_pos n.isLt

theorem seq5_zero (a : IVec S2x512x7168 8) (c : Fin 7168) (i : Fin 2) (n : ℕ) (h : 512 ≤ n) : seq5 a c i n = 0 := dif_neg (by omega)

/-- The first result, from the codes and the scales: a correlation with the filter. -/
def dxOut (y : IVec S2x512x7168 8) (h : IVec S7168x512 8) (ds hs : FVec Ideal S7168 .f32) : FVec Ideal S2x512x7168 .bf16 := fun i =>
  ((Conv.corr (seqh h (i 2)) (seq5 y (i 2) (i 0)) (i 1).val : ℝ) : EReal) * (hs (ix1 (i 2)) * ds (ix1 (i 2)))

/-- The second result, from the codes and the scales: the correlations with the input, summed over the batch. -/
def dhOut (x y : IVec S2x512x7168 8) (xs ds : FVec Ideal S7168 .f32) : FVec Ideal S7168x512 .f32 := fun i =>
  ((Conv.corr (seq4 x (i 0) 0) (seq5 y (i 0) 0) (i 1).val + Conv.corr (seq4 x (i 0) 1) (seq5 y (i 0) 1) (i 1).val : ℝ) : EReal)
    * (ds (ix1 (i 0)) * xs (ix1 (i 0)))

end Codes

end
-- ==== Proof.Out.lean ====
module

public import proofs.«01_k».proof.Proof.Tables
public import proofs.«01_k».proof.Proof.Codes
public import proofs.«01_k».proof.Proof.FrameI
public import proofs.«01_k».proof.Defs

@[expose] public section

set_option maxRecDepth 16384
set_option maxHeartbeats 1600000

/-! What the idealized kernel's result arrays hold when it ends. -/

noncomputable section

open Idealize.ShloMosaic Idealize.ShloMosaic.TcCoe Idealize.SL.Sem
open Idealize.ShloMosaic.Pipeline (Dat Cfg Window)

namespace Cert.KernelIdeal.Value

open Cert.KernelIdeal Cert.KernelIdeal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0]
    ∧ win0_3.index t = ![0, 0, t.val] ∧ win0_4.index t = ![0, 0, t.val] ∧ win0_5.index t = ![t.val, 0]
    ∧ win0_6.index t = ![0, t.val] ∧ win0_7.index t = ![0, t.val] ∧ win0_8.index t = ![0, t.val]
    ∧ win0_9.index t = ![0, 0, t.val] ∧ win0_10.index t = ![t.val, 0] :=
  (by decide +kernel : ∀ t : Fin grid0.N, _)

theorem tlt (t : Fin cfg0.N) : t.val < 28 := t.isLt

/-- The channel of a lane of a block. -/
abbrev chan (t : Fin cfg0.N) (l : Fin 256) : Fin 7168 := ⟨256 * t.val + l.val, by have := tlt t; omega⟩

theorem blk0 (t : Fin cfg0.N) (r k : Fin 256) : iblk m c 0 t (ix2 r k) = (V m c main_v53 : FVec Ideal S256x256 .bf16) (ix2 r k) := by
  blk_ext [iblk, idx t]

theorem blk1 (t : Fin cfg0.N) (r : Fin 256) (k : Fin 128) : iblk m c 1 t (ix2 r k) = (V m c main_v50 : FVec Ideal S256x128 .bf16) (ix2 r k) := by
  blk_ext [iblk, idx t]

theorem blk2 (t : Fin cfg0.N) (q : Fin 3) (p : Fin 128) (r : Fin 256) : iblk m c 2 t (ix3 q p r) = (V m c main_v66 : FVec Ideal S3x128x256 .bf16) (ix3 q p r) := by
  blk_ext [iblk, idx t]

theorem blk3 (t : Fin cfg0.N) (b : Fin 2) (s : Fin 512) (l : Fin 256) :
    iblk m c 3 t (ix3 b s l) = Ideal.ofBits .fp8e4m3 ((m ((c : Thread nD τ).loc main_arg0) : IVec S2x512x7168 8) (ix3 b s (chan t l))) := by
  have e : (V m c main_v0 : FVec Ideal S2x512x7168 .fp8e4m3) = fun i => Ideal.ofBits .fp8e4m3 ((m ((c : Thread nD τ).loc main_arg0) : IVec S2x512x7168 8) i) := by exact rfl
  refine Eq.trans ?_ (congrFun e (ix3 b s (chan t l)))
  blk_ext [iblk, idx t]

theorem blk4 (t : Fin cfg0.N) (b : Fin 2) (s : Fin 512) (l : Fin 256) :
    iblk m c 4 t (ix3 b s l) = Ideal.ofBits .fp8e5m2 ((m ((c : Thread nD τ).loc main_arg2) : IVec S2x512x7168 8) (ix3 b s (chan t l))) := by
  have e : (V m c main_v1 : FVec Ideal S2x512x7168 .fp8e5m2) = fun i => Ideal.ofBits .fp8e5m2 ((m ((c : Thread nD τ).loc main_arg2) : IVec S2x512x7168 8) i) := by exact rfl
  refine Eq.trans ?_ (congrFun e (ix3 b s (chan t l)))
  blk_ext [iblk, idx t]

theorem blk5 (t : Fin cfg0.N) (l : Fin 256) (s : Fin 512) :
    iblk m c 5 t (ix2 l s) = Ideal.ofBits .fp8e4m3 ((m ((c : Thread nD τ).loc main_arg4) : IVec S7168x512 8) (ix2 (chan t l) s)) := by
  have e : (V m c main_v2 : FVec Ideal S7168x512 .fp8e4m3) = fun i => Ideal.ofBits .fp8e4m3 ((m ((c : Thread nD τ).loc main_arg4) : IVec S7168x512 8) i) := by exact rfl
  refine Eq.trans ?_ (congrFun e (ix2 (chan t l) s))
  blk_ext [iblk, idx t]

theorem blk6 (t : Fin cfg0.N) (l : Fin 256) :
    iblk m c 6 t (ix2 0 l) = (m ((c : Thread nD τ).loc main_arg1) : FVec Ideal S7168 .f32) (ix1 (chan t l)) := by
  have e : (V m c main_v67 : FVec Ideal S1x7168 .f32) (ix2 0 (chan t l)) = (m ((c : Thread nD τ).loc main_arg1) : FVec Ideal S7168 .f32) (ix1 (chan t l)) := by
    entry_read; pointwise
  refine Eq.trans ?_ e
  blk_ext [iblk, idx t]

theorem blk7 (t : Fin cfg0.N) (l : Fin 256) :
    iblk m c 7 t (ix2 0 l) = (m ((c : Thread nD τ).loc main_arg3) : FVec Ideal S7168 .f32) (ix1 (chan t l)) := by
  have e : (V m c main_v68 : FVec Ideal S1x7168 .f32) (ix2 0 (chan t l)) = (m ((c : Thread nD τ).loc main_arg3) : FVec Ideal S7168 .f32) (ix1 (chan t l)) := by
    entry_read; pointwise
  refine Eq.trans ?_ e
  blk_ext [iblk, idx t]

theorem blk8 (t : Fin cfg0.N) (l : Fin 256) :
    iblk m c 8 t (ix2 0 l) = (m ((c : Thread nD τ).loc main_arg5) : FVec Ideal S7168 .f32) (ix1 (chan t l)) := by
  have e : (V m c main_v69 : FVec Ideal S1x7168 .f32) (ix2 0 (chan t l)) = (m ((c : Thread nD τ).loc main_arg5) : FVec Ideal S7168 .f32) (ix1 (chan t l)) := by
    entry_read; pointwise
  refine Eq.trans ?_ e
  blk_ext [iblk, idx t]

end Cert.KernelIdeal.Value

end
-- ==== Proof.Final.lean ====
module

public import proofs.«01_k».proof.Proof.Out

@[expose] public section

set_option maxRecDepth 16384
set_option maxHeartbeats 1600000

/-! The idealized kernel's two results, in closed form over its arguments. -/

noncomputable section

open Idealize.ShloMosaic Idealize.ShloMosaic.TcCoe Idealize.SL.Sem
open Idealize.ShloMosaic.Pipeline (Dat Cfg Window)

namespace Cert.KernelIdeal.Value

open Cert.KernelIdeal Cert.KernelIdeal.Gen Cert.KernelIdeal.Run

variable [Cert.Pre_finite.Facts] (m : (ℓ : Loc nD τ sig) → Buf (Elt Ideal) ℓ) (H : Cert.Pre_KernelIdeal_finite m) (c : Dev nD)

abbrev aX : IVec S2x512x7168 8 := m ((c : Thread nD τ).loc main_arg0)
abbrev aXs : FVec Ideal S7168 .f32 := m ((c : Thread nD τ).loc main_arg1)
abbrev aY : IVec S2x512x7168 8 := m ((c : Thread nD τ).loc main_arg2)
abbrev aDs : FVec Ideal S7168 .f32 := m ((c : Thread nD τ).loc main_arg3)
abbrev aH : IVec S7168x512 8 := m ((c : Thread nD τ).loc main_arg4)
abbrev aHs : FVec Ideal S7168 .f32 := m ((c : Thread nD τ).loc main_arg5)

include H in
theorem good (t : Fin cfg0.N) : Conv.Good (ins m c t) (fun b l => Codes.seq4 (aX m c) (chan t l) b)
    (fun b l => Codes.seq5 (aY m c) (chan t l) b) (fun l => Codes.seqh (aH m c) (chan t l)) where
  f2 r k := (blk0 m c t r _).trans ((f2_apply m c r _).trans (if_pos k.isLt))
  f2' r k := (blk0 m c t r _).trans ((f2_apply m c r _).trans (if_neg (by show ¬(128 + k.val < 128); omega)))
  f1 r k := (blk1 m c t r k).trans (f1_apply m c r k)
  g p r := (blk2 m c t 0 p r).trans ((g_apply m c 0 p r).trans (if_pos rfl))
  g' q p r hq := (blk2 m c t q p r).trans ((g_apply m c q p r).trans (if_neg (fun h => hq (Fin.ext h))))
  x b s l := (blk3 m c t b s l).trans ((Codes.real_x _ _ _ _ _ _ (H c).1 b s (chan t l)).trans (congrArg _ (Codes.seq4_of _ _ _ _).symm))
  y b s l := (blk4 m c t b s l).trans ((Codes.real_y _ _ _ _ _ _ (H c).2.1 b s (chan t l)).trans (congrArg _ (Codes.seq5_of _ _ _ _).symm))
  h l s := (blk5 m c t l s).trans ((Codes.real_h _ _ _ _ _ _ (H c).2.2 (chan t l) s).trans (congrArg _ (Codes.seqh_of _ _ _).symm))
  y0 b l n hn := Codes.seq5_zero _ _ _ _ hn

include H in
theorem point9 (t : Fin cfg0.N) (b : Fin 2) (s : Fin 512) (l : Fin 256) :
    (dats m 0 c).after 9 t (ix3 b s l) = Codes.dxOut (aY m c) (aH m c) (aDs m c) (aHs m c) (ix3 b s (chan t l)) := by
  rw [after9]
  refine (Conv.dxF_apply (good m H c t) b s l).trans ?_
  refine congrArg₂ (fun u v : EReal => _ * (u * v)) (blk8 m c t l) (blk7 m c t l)

include H in
theorem point10 (t : Fin cfg0.N) (l : Fin 256) (u : Fin 512) :
    (dats m 0 c).after 10 t (ix2 l u) = Codes.dhOut (aX m c) (aY m c) (aXs m c) (aDs m c) (ix2 (chan t l) u) := by
  rw [after10]
  refine (Conv.dhF_apply (good m H c t) l u).trans ?_
  refine congrArg₂ (fun u v : EReal => _ * (u * v)) (blk7 m c t l) (blk6 m c t l)

include H in
theorem final9 : (dats m 0 c).arrAt 9 cfg0.N = Codes.dxOut (aY m c) (aH m c) (aDs m c) (aHs m c) := by
  refine (dats m 0 c).arrAt_eq_of_covers 9 _ (by decide +kernel) fun t _ y => ?_
  blk_simp
  have e : y = ix3 (y 0) (y 1) (y 2) := by funext a; fin_cases a <;> rfl
  refine (congrArg ((dats m 0 c).after 9 t) e).trans ((point9 m H c t (y 0) (y 1) (y 2)).trans ?_)
  blk_ext [idx t]

include H in
theorem final10 : (dats m 0 c).arrAt 10 cfg0.N = Codes.dhOut (aX m c) (aY m c) (aXs m c) (aDs m c) := by
  refine (dats m 0 c).arrAt_eq_of_covers 10 _ (by decide +kernel) fun t _ y => ?_
  blk_simp
  have e : y = ix2 (y 0) (y 1) := by funext a; fin_cases a <;> rfl
  refine (congrArg ((dats m 0 c).after 10 t) e).trans ((point10 m H c t (y 0) (y 1)).trans ?_)
  blk_ext [idx t]

end Cert.KernelIdeal.Value

end
-- ==== Proof.Ref.lean ====
module

public import proofs.«01_k».proof.Proof.Gen.ReferenceIdeal.Frame
public import proofs.«01_k».proof.Proof.Codes
public import proofs.«01_k».proof.Proof.NumA
public import proofs.«01_k».proof.Defs
public import Idealize.ShloMosaic.Lib.Pipeline.ValueKit
public import Idealize.ShloMosaic.Lib.Pointwise

@[expose] public section

set_option maxRecDepth 16384
set_option maxHeartbeats 1600000

/-! The reference's two results, in closed form over its arguments. -/

noncomputable section

open Idealize.ShloMosaic Idealize.ShloMosaic.TcCoe Idealize.SL.Sem
open Idealize.ShloMosaic.Pipeline (Dat Cfg Window)

namespace Cert.ReferenceIdeal.Value

open Cert.ReferenceIdeal Cert.ReferenceIdeal.Gen

variable (m : (ℓ : Loc nD τ sig) → Buf (Elt Ideal) ℓ) (c : Dev nD)

/-- One where the third place is the sum of the other two. -/
abbrev hot : FVec Ideal S512x512x512 .bf16 :=
  uitofp .bf16 (cmpi .eq (iotaInDim S512x512x512 32 2) (addi (iotaInDim S512x512x512 32 0) (iotaInDim S512x512x512 32 1)))

/-- The first result from the widened arrays. -/
abbrev refDx (y : FVec Ideal S2x512x7168 .bf16) (h : FVec Ideal S7168x512 .bf16) (ds hs : FVec Ideal S7168 .f32) : FVec Ideal S2x512x7168 .bf16 :=
  truncf .bf16 (mulf (transpose S2x512x7168 [1, 2, 0]
      (Host.dotGeneral dot_S2x512x7168_S7168x512x512_S7168x2x512_1_2_0_1_2_0 none y
        (truncf .bf16 (Host.dotGeneral dot_S7168x512_S512x512x512_S7168x512x512_1_1_0_02_n_n none h hot : FVec Ideal S7168x512x512 .f32) bitsLt_bf16_f32) : FVec Ideal S7168x2x512 .f32)
      transposes_S7168x2x512_S2x512x7168_1_2_0)
    (broadcastInDim S2x512x7168 ![0, 1, 2] bcast_S1x1x7168_S2x512x7168_0_1_2 (broadcastInDim S1x1x7168 ![2] bcast_S7168_S1x1x7168_2 (mulf hs ds)))) bitsLt_bf16_f32

/-- The second result from the widened arrays. -/
abbrev refDh (x y : FVec Ideal S2x512x7168 .bf16) (xs ds : FVec Ideal S7168 .f32) : FVec Ideal S7168x512 .f32 :=
  mulf (Host.dotGeneral dot_S2x7168x512x512_S2x512x7168_S7168x512_03_01_2_n_1_2 none
      (truncf .bf16 (Host.dotGeneral dot_S2x512x7168_S512x512x512_S2x7168x512x512_1_0_02_12_n_n none x hot : FVec Ideal S2x7168x512x512 .f32) bitsLt_bf16_f32) y : FVec Ideal S7168x512 .f32)
    (broadcastInDim S7168x512 ![0, 1] bcast_S7168x1_S7168x512_0_1 (broadcastInDim S7168x1 ![0] bcast_S7168_S7168x1_0 (mulf ds xs)))

abbrev aXs : FVec Ideal S7168 .f32 := m ((c : Thread nD τ).loc main_arg1)
abbrev aDs : FVec Ideal S7168 .f32 := m ((c : Thread nD τ).loc main_arg3)
abbrev aHs : FVec Ideal S7168 .f32 := m ((c : Thread nD τ).loc main_arg5)

theorem hot_apply (a b s : Fin 512) : hot (ix3 a b s) = ((if s.val = a.val + b.val then 1 else 0 : ℝ) : EReal) := by
  pointwise
  show (((BitVec.ofBool (BitVec.ofNat 32 s.val == BitVec.ofNat 32 a.val + BitVec.ofNat 32 b.val)).toNat : ℝ) : EReal) = _
  have e : (BitVec.ofNat 32 s.val == BitVec.ofNat 32 a.val + BitVec.ofNat 32 b.val) = decide (s.val = a.val + b.val) := by
    rw [Bool.eq_iff_iff, beq_iff_eq, decide_eq_true_iff, ← BitVec.toNat_inj]
    simp only [BitVec.toNat_add, BitVec.toNat_ofNat]; omega
  rw [e]
  by_cases h : s.val = a.val + b.val
  · simp [h]
  · simp [h]

/-- A sum against a shifted one-hot row is a shifted read. -/
theorem sum_shift (f Y : ℕ → ℝ) (hY : ∀ n, 512 ≤ n → Y n = 0) (t : ℕ) :
    ∑ x : Fin 512, Y x.val * ∑ u : Fin 512, f u.val * (if x.val = t + u.val then 1 else 0) = Conv.corr f Y t := by
  unfold Conv.corr
  rw [← Fin.sum_univ_eq_sum_range (fun s => f s * Y (t + s))]
  simp only [Finset.mul_sum]
  rw [Finset.sum_comm]
  refine Finset.sum_congr rfl fun u _ => ?_
  rcases Nat.lt_or_ge (t + u.val) 512 with h | h
  · rw [Finset.sum_eq_single (⟨t + u.val, h⟩ : Fin 512)]
    · simp only [if_true]; ring
    · intro x _ hx
      rw [if_neg (fun e => hx (Fin.ext e))]; ring
    · intro h'; exact absurd (Finset.mem_univ _) h'
  · rw [hY _ h, mul_zero]
    refine Finset.sum_eq_zero fun x _ => ?_
    rw [if_neg (by have := x.isLt; omega)]; ring

theorem refDx_apply (y : FVec Ideal S2x512x7168 .bf16) (h : FVec Ideal S7168x512 .bf16) (ds hs : FVec Ideal S7168 .f32) (b : Fin 2) (t : Fin 512) (k : Fin 7168)
    (Y H : ℕ → ℝ) (hy : ∀ n : Fin 512, y (ix3 b n k) = (Y n.val : EReal)) (hh : ∀ n : Fin 512, h (ix2 k n) = (H n.val : EReal))
    (hY : ∀ n, 512 ≤ n → Y n = 0) :
    refDx y h ds hs (ix3 b t k) = ((Conv.corr H Y t.val : ℝ) : EReal) * (hs (ix1 k) * ds (ix1 k)) := by
  have ho := hot_apply
  unfold refDx
  generalize hot = o at ho
  pointwise
  refine congrArg (· * (hs (ix1 k) * ds (ix1 k))) ?_
  rw [← sum_shift H Y hY t.val, Conv.coe_sum]
  refine Finset.sum_congr rfl fun x _ => ?_
  rw [hy, EReal.coe_mul, Conv.coe_sum]
  refine congrArg _ (Finset.sum_congr rfl fun u _ => ?_)
  rw [hh, ho, EReal.coe_mul]

theorem refDh_apply (x y : FVec Ideal S2x512x7168 .bf16) (xs ds : FVec Ideal S7168 .f32) (k : Fin 7168) (u : Fin 512)
    (X Y : Fin 2 → ℕ → ℝ) (hx : ∀ b, ∀ n : Fin 512, x (ix3 b n k) = (X b n.val : EReal)) (hy : ∀ b, ∀ n : Fin 512, y (ix3 b n k) = (Y b n.val : EReal))
    (hY : ∀ b n, 512 ≤ n → Y b n = 0) :
    refDh x y xs ds (ix2 k u) = ((Conv.corr (X 0) (Y 0) u.val + Conv.corr (X 1) (Y 1) u.val : ℝ) : EReal) * (ds (ix1 k) * xs (ix1 k)) := by
  have ho := hot_apply
  unfold refDh
  generalize hot = o at ho
  pointwise
  refine congrArg (· * (ds (ix1 k) * xs (ix1 k))) ?_
  have e : ∀ b : Fin 2, ∑ s : Fin 512, (∑ v : Fin 512, x (ix3 b v k) * o (ix3 v u s)) * y (ix3 b s k) = ((Conv.corr (X b) (Y b) u.val : ℝ) : EReal) := fun b => by
    rw [← sum_shift (X b) (Y b) (hY b) u.val, Conv.coe_sum]
    refine Finset.sum_congr rfl fun s _ => ?_
    rw [hy, EReal.coe_mul, Conv.coe_sum, mul_comm]
    refine congrArg _ (Finset.sum_congr rfl fun v _ => ?_)
    rw [hx, ho, EReal.coe_mul, Nat.add_comm]
  rw [Fin.sum_univ_two, e, e, EReal.coe_add]

theorem tail21 : Pipeline.afterTail₀ cfgs (dats m) 0 (V0 m) [hostOps1] c main_v21
    = refDx ((dats m 0 c).arrAt 4 cfg0.N) ((dats m 0 c).arrAt 5 cfg0.N) (aDs m c) (aHs m c) := by
  unfold Pipeline.afterTail₀
  show StableHlo.after hostOps1 _ _ = _
  after_results
  rw [Pipeline.withArrays_of_ne _ c (V0 m c) _ main_arg5 (by exact (by decide : ∀ w, Pipeline.arrRef spec0 w ≠ main_arg5)),
    Pipeline.withArrays_of_ne _ c (V0 m c) _ main_arg3 (by exact (by decide : ∀ w, Pipeline.arrRef spec0 w ≠ main_arg3))]
  have e4 := Pipeline.withArrays_arr spec0 (by decide) c (V0 m c) (fun w => (dats m 0 c).arrAt w (cfgs 0).N) 4
  have e5 := Pipeline.withArrays_arr spec0 (by decide) c (V0 m c) (fun w => (dats m 0 c).arrAt w (cfgs 0).N) 5
  have e := congr (congr (congrArg₂ (fun a b => refDx a b) e4 e5) (V_main_arg3 m c)) (V_main_arg5 m c)
  exact e

theorem tail25 : Pipeline.afterTail₀ cfgs (dats m) 0 (V0 m) [hostOps1] c main_v25
    = refDh ((dats m 0 c).arrAt 3 cfg0.N) ((dats m 0 c).arrAt 4 cfg0.N) (aXs m c) (aDs m c) := by
  unfold Pipeline.afterTail₀
  show StableHlo.after hostOps1 _ _ = _
  after_results
  rw [Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3))]
  have e3 := Pipeline.withArrays_arr spec0 (by decide) c (V0 m c) (fun w => (dats m 0 c).arrAt w (cfgs 0).N) 3
  have e4 := Pipeline.withArrays_arr spec0 (by decide) c (V0 m c) (fun w => (dats m 0 c).arrAt w (cfgs 0).N) 4
  have e := congr (congr (congrArg₂ (fun a b => refDh a b) e3 e4) (V_main_arg1 m c)) (V_main_arg3 m c)
  exact e

abbrev aX : IVec S2x512x7168 8 := m ((c : Thread nD τ).loc main_arg0)
abbrev aY : IVec S2x512x7168 8 := m ((c : Thread nD τ).loc main_arg2)
abbrev aH : IVec S7168x512 8 := m ((c : Thread nD τ).loc main_arg4)

theorem idx : ∀ t : Fin cfg0.N, win0_0.index t = ![0, 0, 0] ∧ win0_1.index t = ![0, 0, 0] ∧ win0_2.index t = ![0, 0]
    ∧ win0_3.index t = ![0, 0, 0] ∧ win0_4.index t = ![0, 0, 0] ∧ win0_5.index t = ![0, 0] :=
  (by decide +kernel : ∀ t : Fin grid0.N, _)

theorem pay1_apply (v : Vec Ideal S2x512x7168 .fp8e4m3) (b : Fin 2) (n : Fin 512) (k : Fin 7168) : k0_pay1 v (ix3 b n k) = v (ix3 b n k) := by
  pointwise [k0_pay1]

theorem pay2_apply (v : Vec Ideal S2x512x7168 .fp8e5m2) (b : Fin 2) (n : Fin 512) (k : Fin 7168) : k0_pay2 v (ix3 b n k) = v (ix3 b n k) := by
  pointwise [k0_pay2]

theorem pay3_apply (v : Vec Ideal S7168x512 .fp8e4m3) (k : Fin 7168) (n : Fin 512) : k0_pay3 v (ix2 k n) = v (ix2 k n) := by
  pointwise [k0_pay3]

theorem arr3 : (dats m 0 c).arrAt 3 cfg0.N = (bitcastToFloat .fp8e4m3 (aX m c) : FVec Ideal S2x512x7168 .fp8e4m3) := by
  have v : (V m c main_v0 : FVec Ideal S2x512x7168 .fp8e4m3) = (bitcastToFloat .fp8e4m3 (aX m c) : FVec Ideal S2x512x7168 .fp8e4m3) := by exact rfl
  refine (dats m 0 c).arrAt_eq_of_after_last 3 t0_0 (by decide +kernel) _ fun j => ?_
  blk_simp
  rw [after0_3]; frame_out
  have e : j = ix3 (j 0) (j 1) (j 2) := by funext a; fin_cases a <;> rfl
  refine (congrArg (k0_pay1 (iblk m c 0 t0_0)) e).trans ((pay1_apply _ (j 0) (j 1) (j 2)).trans (Eq.trans ?_ (congrFun v j)))
  blk_ext [iblk, idx t0_0]

theorem arr4 : (dats m 0 c).arrAt 4 cfg0.N = (bitcastToFloat .fp8e5m2 (aY m c) : FVec Ideal S2x512x7168 .fp8e5m2) := by
  have v : (V m c main_v1 : FVec Ideal S2x512x7168 .fp8e5m2) = (bitcastToFloat .fp8e5m2 (aY m c) : FVec Ideal S2x512x7168 .fp8e5m2) := by exact rfl
  refine (dats m 0 c).arrAt_eq_of_after_last 4 t0_0 (by decide +kernel) _ fun j => ?_
  blk_simp
  rw [after0_4]; frame_out
  have e : j = ix3 (j 0) (j 1) (j 2) := by funext a; fin_cases a <;> rfl
  refine (congrArg (k0_pay2 (iblk m c 1 t0_0)) e).trans ((pay2_apply _ (j 0) (j 1) (j 2)).trans (Eq.trans ?_ (congrFun v j)))
  blk_ext [iblk, idx t0_0]

theorem arr5 : (dats m 0 c).arrAt 5 cfg0.N = (bitcastToFloat .fp8e4m3 (aH m c) : FVec Ideal S7168x512 .fp8e4m3) := by
  have v : (V m c main_v2 : FVec Ideal S7168x512 .fp8e4m3) = (bitcastToFloat .fp8e4m3 (aH m c) : FVec Ideal S7168x512 .fp8e4m3) := by exact rfl
  refine (dats m 0 c).arrAt_eq_of_after_last 5 t0_0 (by decide +kernel) _ fun j => ?_
  blk_simp
  rw [after0_5]; frame_out
  have e : j = ix2 (j 0) (j 1) := by funext a; fin_cases a <;> rfl
  refine (congrArg (k0_pay3 (iblk m c 2 t0_0)) e).trans ((pay3_apply _ (j 0) (j 1)).trans (Eq.trans ?_ (congrFun v j)))
  blk_ext [iblk, idx t0_0]

variable [Cert.Pre_finite.Facts] (H : Cert.Pre_ReferenceIdeal_finite m)

include H in
/-- The first result. -/
theorem out21 : Pipeline.afterTail₀ cfgs (dats m) 0 (V0 m) [hostOps1] c main_v21 = Codes.dxOut (aY m c) (aH m c) (aDs m c) (aHs m c) := by
  refine (tail21 m c).trans ?_
  funext j
  have e : j = ix3 (j 0) (j 1) (j 2) := by funext a; fin_cases a <;> rfl
  refine (congrArg _ e).trans ((refDx_apply _ _ (aDs m c) (aHs m c) (j 0) (j 1) (j 2) (Codes.seq5 (aY m c) (j 2) (j 0)) (Codes.seqh (aH m c) (j 2)) (fun n => ?_) (fun n => ?_)
    (Codes.seq5_zero _ _ _)))
  · refine (congrFun (arr4 m c) _).trans ?_
    exact (Codes.real_y _ _ _ _ _ _ (H c).2.1 (j 0) n (j 2)).trans (congrArg _ (Codes.seq5_of _ _ _ _).symm)
  · refine (congrFun (arr5 m c) _).trans ?_
    exact (Codes.real_h _ _ _ _ _ _ (H c).2.2 (j 2) n).trans (congrArg _ (Codes.seqh_of _ _ _).symm)

include H in
/-- The second result. -/
theorem out25 : Pipeline.afterTail₀ cfgs (dats m) 0 (V0 m) [hostOps1] c main_v25 = Codes.dhOut (aX m c) (aY m c) (aXs m c) (aDs m c) := by
  refine (tail25 m c).trans ?_
  funext j
  have e : j = ix2 (j 0) (j 1) := by funext a; fin_cases a <;> rfl
  refine (congrArg _ e).trans ((refDh_apply _ _ (aXs m c) (aDs m c) (j 0) (j 1) (Codes.seq4 (aX m c) (j 0)) (Codes.seq5 (aY m c) (j 0)) (fun b n => ?_) (fun b n => ?_)
    (fun b => Codes.seq5_zero _ _ b)))
  · refine (congrFun (arr3 m c) _).trans ?_
    exact (Codes.real_x _ _ _ _ _ _ (H c).1 b n (j 0)).trans (congrArg _ (Codes.seq4_of _ _ _ _).symm)
  · refine (congrFun (arr4 m c) _).trans ?_
    exact (Codes.real_y _ _ _ _ _ _ (H c).2.1 b n (j 0)).trans (congrArg _ (Codes.seq5_of _ _ _ _).symm)

end Cert.ReferenceIdeal.Value

end
-- ==== Proof.Pair.lean ====
module

public import proofs.«01_k».proof.Defs
public import proofs.«01_k».proof.Proof.Final
public import proofs.«01_k».proof.Proof.Ref

@[expose] public section

set_option maxRecDepth 16384
set_option maxHeartbeats 1600000

/-! The two programs end with the same results. -/

noncomputable section

namespace Cert.Pair

open Idealize.ShloMosaic Idealize.ShloMosaic.TcCoe Idealize.SL.Sem

instance : Cert.KernelIdeal.Facts := Cert.KernelIdeal.Gen.facts
instance : Cert.ReferenceIdeal.Facts := Cert.ReferenceIdeal.Gen.facts

variable [Cert.Pre_finite.Facts]

open Cert.KernelIdeal in
theorem runK (m : (ℓ : Loc nD τ sig) → Buf (Elt Ideal) ℓ) (ρ : Dev nD → PrngReg) (H : Cert.Pre_KernelIdeal_finite m) :
    θ_run defs (onTc (τ := τ) (main (F := Ideal))) ⟨m, fun _ => 0, ρ⟩ (fun r => ∀ c : Dev nD,
      r.2.mem ((c.tc : Thread nD τ).loc main_v70_0) = Codes.dxOut (Value.aY m c) (Value.aH m c) (Value.aDs m c) (Value.aHs m c)
      ∧ r.2.mem ((c.tc : Thread nD τ).loc main_v70_1) = Codes.dhOut (Value.aX m c) (Value.aY m c) (Value.aXs m c) (Value.aDs m c)) := by
  run_from Cert.KernelIdeal.Run.run m ρ
  · exact Cert.KernelIdeal.Value.final9 m H c
  · exact Cert.KernelIdeal.Value.final10 m H c

open Cert.ReferenceIdeal in
theorem runR (m : (ℓ : Loc nD τ sig) → Buf (Elt Ideal) ℓ) (ρ : Dev nD → PrngReg) (H : Cert.Pre_ReferenceIdeal_finite m) :
    θ_run defs (onTc (τ := τ) (main (F := Ideal))) ⟨m, fun _ => 0, ρ⟩ (fun r => ∀ c : Dev nD,
      r.2.mem ((c.tc : Thread nD τ).loc main_v21) = Codes.dxOut (Value.aY m c) (Value.aH m c) (Value.aDs m c) (Value.aHs m c)
      ∧ r.2.mem ((c.tc : Thread nD τ).loc main_v25) = Codes.dhOut (Value.aX m c) (Value.aY m c) (Value.aXs m c) (Value.aDs m c)) := by
  run_from Cert.ReferenceIdeal.Gen.run_main m ρ
  · exact Cert.ReferenceIdeal.Value.out21 m c H
  · exact Cert.ReferenceIdeal.Value.out25 m c H

/-- Both results of the idealized kernel are the reference's. -/
theorem same : Cert.algebraic_KernelIdeal_ReferenceIdeal_pre_finite := by
  intro m g m' g' hpre hagree
  have hpre' : Cert.Pre_ReferenceIdeal_finite m' := fun c => by
    obtain ⟨h0, h1, h2, h3, h4, h5⟩ := hagree c
    rw [h0, h1, h2, h3, h4, h5]
    exact hpre c
  refine ⟨_, _, θ_run_mono (θ_run_and (runK m g hpre) (Cert.KernelIdeal.Run.unchanged m g)) fun r h c => ⟨(h.1 c).1, (h.1 c).2, h.2 c⟩,
    θ_run_mono (θ_run_and (runR m' g' hpre') (Cert.ReferenceIdeal.Gen.unchanged m' g')) fun r h c => ⟨(h.1 c).1.trans ?_, (h.1 c).2.trans ?_, h.2 c⟩⟩
  · obtain ⟨h0, h1, h2, h3, h4, h5⟩ := hagree c
    unfold Cert.ReferenceIdeal.Value.aY Cert.ReferenceIdeal.Value.aH Cert.ReferenceIdeal.Value.aDs Cert.ReferenceIdeal.Value.aHs
    rw [h2, h3, h4, h5]
  · obtain ⟨h0, h1, h2, h3, h4, h5⟩ := hagree c
    unfold Cert.ReferenceIdeal.Value.aX Cert.ReferenceIdeal.Value.aY Cert.ReferenceIdeal.Value.aDs Cert.ReferenceIdeal.Value.aXs
    rw [h0, h1, h2, h3]

end Cert.Pair

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.FrameK
public import proofs.«01_k».proof.Proof.FrameI
public import proofs.«01_k».proof.Proof.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  IdealRules.bf16_pack.statement _,
  @Cert.Pair.same Cert.Pre_finite.Gen.facts⟩

end Cert.Proof

end
